-- ==== Defs.lean ====
def Pre_KDx (m : (ℓ : Loc Cert.KDx.nD Cert.KDx.τ Cert.KDx.sig) → Buf (Elt Bits) ℓ) : Prop :=
  True

def Pre_KDxIdeal (m : (ℓ : Loc Cert.KDxIdeal.nD Cert.KDxIdeal.τ Cert.KDxIdeal.sig) → Buf (Elt Ideal) ℓ) : Prop :=
  True

def Pre_RDxIdeal (m : (ℓ : Loc Cert.RDxIdeal.nD Cert.RDxIdeal.τ Cert.RDxIdeal.sig) → Buf (Elt Ideal) ℓ) : Prop :=
  True

def Pre_KDw (m : (ℓ : Loc Cert.KDw.nD Cert.KDw.τ Cert.KDw.sig) → Buf (Elt Bits) ℓ) : Prop :=
  True

def Pre_KDwIdeal (m : (ℓ : Loc Cert.KDwIdeal.nD Cert.KDwIdeal.τ Cert.KDwIdeal.sig) → Buf (Elt Ideal) ℓ) : Prop :=
  True

def Pre_RDwIdeal (m : (ℓ : Loc Cert.RDwIdeal.nD Cert.RDwIdeal.τ Cert.RDwIdeal.sig) → Buf (Elt Ideal) ℓ) : Prop :=
  True

def quiescent_KDx [hKDx : Cert.KDx.Facts] : Prop :=
  ∀ (m : (ℓ : Loc Cert.KDx.nD Cert.KDx.τ Cert.KDx.sig) → Buf (Elt Bits) ℓ) (g : Dev Cert.KDx.nD → PrngReg), Pre_KDx m →
    θ_run (Cert.KDx.defs (F := Bits)) (onTc (τ := Cert.KDx.τ) (Cert.KDx.main (F := Bits))) ⟨m, fun _ => 0, g⟩ (fun r => (∀ c : Dev Cert.KDx.nD,
      r.2.mem ((c.tc : Thread Cert.KDx.nD Cert.KDx.τ).loc Cert.KDx.main_arg0) = m ((c.tc : Thread Cert.KDx.nD Cert.KDx.τ).loc Cert.KDx.main_arg0)
      ∧ r.2.mem ((c.tc : Thread Cert.KDx.nD Cert.KDx.τ).loc Cert.KDx.main_arg1) = m ((c.tc : Thread Cert.KDx.nD Cert.KDx.τ).loc Cert.KDx.main_arg1)
      ∧ r.2.mem ((c.tc : Thread Cert.KDx.nD Cert.KDx.τ).loc Cert.KDx.main_arg2) = m ((c.tc : Thread Cert.KDx.nD Cert.KDx.τ).loc Cert.KDx.main_arg2)
      ∧ r.2.mem ((c.tc : Thread Cert.KDx.nD Cert.KDx.τ).loc Cert.KDx.main_arg3) = m ((c.tc : Thread Cert.KDx.nD Cert.KDx.τ).loc Cert.KDx.main_arg3))
      ∧ r.2.sem = fun _ => 0)

def quiescent_KDxIdeal [hKDxIdeal : Cert.KDxIdeal.Facts] : Prop :=
  ∀ (m : (ℓ : Loc Cert.KDxIdeal.nD Cert.KDxIdeal.τ Cert.KDxIdeal.sig) → Buf (Elt Ideal) ℓ) (g : Dev Cert.KDxIdeal.nD → PrngReg), Pre_KDxIdeal m →
    θ_run (Cert.KDxIdeal.defs (F := Ideal)) (onTc (τ := Cert.KDxIdeal.τ) (Cert.KDxIdeal.main (F := Ideal))) ⟨m, fun _ => 0, g⟩ (fun r => (∀ c : Dev Cert.KDxIdeal.nD,
      r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
      ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
      ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2)
      ∧ r.2.mem ((c.tc : Thread Cert.KDxIdeal.nD Cert.KDxIdeal.τ).loc Cert.KDxIdeal.main_arg3) = m ((c.tc : Thread Cert.KDxIdeal.nD Cert.KDxIdeal.τ).loc Cert.KDxIdeal.main_arg3))
      ∧ r.2.sem = fun _ => 0)

def quiescent_RDxIdeal [hRDxIdeal : Cert.RDxIdeal.Facts] : Prop :=
  ∀ (m : (ℓ : Loc Cert.RDxIdeal.nD Cert.RDxIdeal.τ Cert.RDxIdeal.sig) → Buf (Elt Ideal) ℓ) (g : Dev Cert.RDxIdeal.nD → PrngReg), Pre_RDxIdeal m →
    θ_run (Cert.RDxIdeal.defs (F := Ideal)) (onTc (τ := Cert.RDxIdeal.τ) (Cert.RDxIdeal.main (F := Ideal))) ⟨m, fun _ => 0, g⟩ (fun r => (∀ c : Dev Cert.RDxIdeal.nD,
      r.2.mem ((c.tc : Thread Cert.RDxIdeal.nD Cert.RDxIdeal.τ).loc Cert.RDxIdeal.main_arg0) = m ((c.tc : Thread Cert.RDxIdeal.nD Cert.RDxIdeal.τ).loc Cert.RDxIdeal.main_arg0)
      ∧ r.2.mem ((c.tc : Thread Cert.RDxIdeal.nD Cert.RDxIdeal.τ).loc Cert.RDxIdeal.main_arg1) = m ((c.tc : Thread Cert.RDxIdeal.nD Cert.RDxIdeal.τ).loc Cert.RDxIdeal.main_arg1)
      ∧ r.2.mem ((c.tc : Thread Cert.RDxIdeal.nD Cert.RDxIdeal.τ).loc Cert.RDxIdeal.main_arg2) = m ((c.tc : Thread Cert.RDxIdeal.nD Cert.RDxIdeal.τ).loc Cert.RDxIdeal.main_arg2)
      ∧ r.2.mem ((c.tc : Thread Cert.RDxIdeal.nD Cert.RDxIdeal.τ).loc Cert.RDxIdeal.main_arg3) = m ((c.tc : Thread Cert.RDxIdeal.nD Cert.RDxIdeal.τ).loc Cert.RDxIdeal.main_arg3))
      ∧ r.2.sem = fun _ => 0)

def quiescent_KDw [hKDw : Cert.KDw.Facts] : Prop :=
  ∀ (m : (ℓ : Loc Cert.KDw.nD Cert.KDw.τ Cert.KDw.sig) → Buf (Elt Bits) ℓ) (g : Dev Cert.KDw.nD → PrngReg), Pre_KDw m →
    θ_run (Cert.KDw.defs (F := Bits)) (onTc (τ := Cert.KDw.τ) (Cert.KDw.main (F := Bits))) ⟨m, fun _ => 0, g⟩ (fun r => (∀ c : Dev Cert.KDw.nD,
      r.2.mem ((c.tc : Thread Cert.KDw.nD Cert.KDw.τ).loc Cert.KDw.main_arg0) = m ((c.tc : Thread Cert.KDw.nD Cert.KDw.τ).loc Cert.KDw.main_arg0)
      ∧ r.2.mem ((c.tc : Thread Cert.KDw.nD Cert.KDw.τ).loc Cert.KDw.main_arg1) = m ((c.tc : Thread Cert.KDw.nD Cert.KDw.τ).loc Cert.KDw.main_arg1)
      ∧ r.2.mem ((c.tc : Thread Cert.KDw.nD Cert.KDw.τ).loc Cert.KDw.main_arg2) = m ((c.tc : Thread Cert.KDw.nD Cert.KDw.τ).loc Cert.KDw.main_arg2)
      ∧ r.2.mem ((c.tc : Thread Cert.KDw.nD Cert.KDw.τ).loc Cert.KDw.main_arg3) = m ((c.tc : Thread Cert.KDw.nD Cert.KDw.τ).loc Cert.KDw.main_arg3))
      ∧ r.2.sem = fun _ => 0)

def quiescent_KDwIdeal [hKDwIdeal : Cert.KDwIdeal.Facts] : Prop :=
  ∀ (m : (ℓ : Loc Cert.KDwIdeal.nD Cert.KDwIdeal.τ Cert.KDwIdeal.sig) → Buf (Elt Ideal) ℓ) (g : Dev Cert.KDwIdeal.nD → PrngReg), Pre_KDwIdeal m →
    θ_run (Cert.KDwIdeal.defs (F := Ideal)) (onTc (τ := Cert.KDwIdeal.τ) (Cert.KDwIdeal.main (F := Ideal))) ⟨m, fun _ => 0, g⟩ (fun r => (∀ c : Dev Cert.KDwIdeal.nD,
      r.2.mem ((c.tc : Thread Cert.KDwIdeal.nD Cert.KDwIdeal.τ).loc Cert.KDwIdeal.main_arg0) = m ((c.tc : Thread Cert.KDwIdeal.nD Cert.KDwIdeal.τ).loc Cert.KDwIdeal.main_arg0)
      ∧ r.2.mem ((c.tc : Thread Cert.KDwIdeal.nD Cert.KDwIdeal.τ).loc Cert.KDwIdeal.main_arg1) = m ((c.tc : Thread Cert.KDwIdeal.nD Cert.KDwIdeal.τ).loc Cert.KDwIdeal.main_arg1)
      ∧ r.2.mem ((c.tc : Thread Cert.KDwIdeal.nD Cert.KDwIdeal.τ).loc Cert.KDwIdeal.main_arg2) = m ((c.tc : Thread Cert.KDwIdeal.nD Cert.KDwIdeal.τ).loc Cert.KDwIdeal.main_arg2)
      ∧ r.2.mem ((c.tc : Thread Cert.KDwIdeal.nD Cert.KDwIdeal.τ).loc Cert.KDwIdeal.main_arg3) = m ((c.tc : Thread Cert.KDwIdeal.nD Cert.KDwIdeal.τ).loc Cert.KDwIdeal.main_arg3))
      ∧ r.2.sem = fun _ => 0)

def quiescent_RDwIdeal [hRDwIdeal : Cert.RDwIdeal.Facts] : Prop :=
  ∀ (m : (ℓ : Loc Cert.RDwIdeal.nD Cert.RDwIdeal.τ Cert.RDwIdeal.sig) → Buf (Elt Ideal) ℓ) (g : Dev Cert.RDwIdeal.nD → PrngReg), Pre_RDwIdeal m →
    θ_run (Cert.RDwIdeal.defs (F := Ideal)) (onTc (τ := Cert.RDwIdeal.τ) (Cert.RDwIdeal.main (F := Ideal))) ⟨m, fun _ => 0, g⟩ (fun r => (∀ c : Dev Cert.RDwIdeal.nD,
      r.2.mem ((c.tc : Thread Cert.RDwIdeal.nD Cert.RDwIdeal.τ).loc Cert.RDwIdeal.main_arg0) = m ((c.tc : Thread Cert.RDwIdeal.nD Cert.RDwIdeal.τ).loc Cert.RDwIdeal.main_arg0)
      ∧ r.2.mem ((c.tc : Thread Cert.RDwIdeal.nD Cert.RDwIdeal.τ).loc Cert.RDwIdeal.main_arg1) = m ((c.tc : Thread Cert.RDwIdeal.nD Cert.RDwIdeal.τ).loc Cert.RDwIdeal.main_arg1)
      ∧ r.2.mem ((c.tc : Thread Cert.RDwIdeal.nD Cert.RDwIdeal.τ).loc Cert.RDwIdeal.main_arg2) = m ((c.tc : Thread Cert.RDwIdeal.nD Cert.RDwIdeal.τ).loc Cert.RDwIdeal.main_arg2)
      ∧ r.2.mem ((c.tc : Thread Cert.RDwIdeal.nD Cert.RDwIdeal.τ).loc Cert.RDwIdeal.main_arg3) = m ((c.tc : Thread Cert.RDwIdeal.nD Cert.RDwIdeal.τ).loc Cert.RDwIdeal.main_arg3))
      ∧ r.2.sem = fun _ => 0)

def preserves_KDx_KDxIdeal : Prop :=
  True

def algebraic_KDxIdeal_RDxIdeal [hKDxIdeal : Cert.KDxIdeal.Facts] [hRDxIdeal : Cert.RDxIdeal.Facts] : Prop :=
  ∀ (m : (ℓ : Loc Cert.KDxIdeal.nD Cert.KDxIdeal.τ Cert.KDxIdeal.sig) → Buf (Elt Ideal) ℓ) (g : Dev Cert.KDxIdeal.nD → PrngReg)
    (m' : (ℓ : Loc Cert.RDxIdeal.nD Cert.RDxIdeal.τ Cert.RDxIdeal.sig) → Buf (Elt Ideal) ℓ) (g' : Dev Cert.RDxIdeal.nD → PrngReg), Pre_KDxIdeal m →
    (∀ c : Dev Cert.KDxIdeal.nD,
      m' ((c.tc : Thread Cert.RDxIdeal.nD Cert.RDxIdeal.τ).loc Cert.RDxIdeal.main_arg0) = m ((c.tc : Thread Cert.KDxIdeal.nD Cert.KDxIdeal.τ).loc Cert.KDxIdeal.main_arg0)
      ∧ m' ((c.tc : Thread Cert.RDxIdeal.nD Cert.RDxIdeal.τ).loc Cert.RDxIdeal.main_arg1) = m ((c.tc : Thread Cert.KDxIdeal.nD Cert.KDxIdeal.τ).loc Cert.KDxIdeal.main_arg1)
      ∧ m' ((c.tc : Thread Cert.RDxIdeal.nD Cert.RDxIdeal.τ).loc Cert.RDxIdeal.main_arg2) = m ((c.tc : Thread Cert.KDxIdeal.nD Cert.KDxIdeal.τ).loc Cert.KDxIdeal.main_arg2)
      ∧ m' ((c.tc : Thread Cert.RDxIdeal.nD Cert.RDxIdeal.τ).loc Cert.RDxIdeal.main_arg3) = m ((c.tc : Thread Cert.KDxIdeal.nD Cert.KDxIdeal.τ).loc Cert.KDxIdeal.main_arg3)) →
    ∃ (v0 : (c : Dev Cert.KDxIdeal.nD) → Buf (Elt Ideal) ((c.tc : Thread Cert.KDxIdeal.nD Cert.KDxIdeal.τ).loc Cert.KDxIdeal.main_v7)),
      θ_run (Cert.KDxIdeal.defs (F := Ideal)) (onTc (τ := Cert.KDxIdeal.τ) (Cert.KDxIdeal.main (F := Ideal))) ⟨m, fun _ => 0, g⟩ (fun r => ∀ c : Dev Cert.KDxIdeal.nD,
          r.2.mem ((c.tc : Thread Cert.KDxIdeal.nD Cert.KDxIdeal.τ).loc Cert.KDxIdeal.main_v7) = v0 c
          ∧ r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
          ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
          ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2)
          ∧ r.2.mem ((c.tc : Thread Cert.KDxIdeal.nD Cert.KDxIdeal.τ).loc Cert.KDxIdeal.main_arg3) = m ((c.tc : Thread Cert.KDxIdeal.nD Cert.KDxIdeal.τ).loc Cert.KDxIdeal.main_arg3))
      ∧ θ_run (Cert.RDxIdeal.defs (F := Ideal)) (onTc (τ := Cert.RDxIdeal.τ) (Cert.RDxIdeal.main (F := Ideal))) ⟨m', fun _ => 0, g'⟩ (fun r => ∀ c : Dev Cert.RDxIdeal.nD,
          r.2.mem ((c.tc : Thread Cert.RDxIdeal.nD Cert.RDxIdeal.τ).loc Cert.RDxIdeal.main_v3) = v0 c
          ∧ r.2.mem ((c.tc : Thread Cert.RDxIdeal.nD Cert.RDxIdeal.τ).loc Cert.RDxIdeal.main_arg0) = m' ((c.tc : Thread Cert.RDxIdeal.nD Cert.RDxIdeal.τ).loc Cert.RDxIdeal.main_arg0)
          ∧ r.2.mem ((c.tc : Thread Cert.RDxIdeal.nD Cert.RDxIdeal.τ).loc Cert.RDxIdeal.main_arg1) = m' ((c.tc : Thread Cert.RDxIdeal.nD Cert.RDxIdeal.τ).loc Cert.RDxIdeal.main_arg1)
          ∧ r.2.mem ((c.tc : Thread Cert.RDxIdeal.nD Cert.RDxIdeal.τ).loc Cert.RDxIdeal.main_arg2) = m' ((c.tc : Thread Cert.RDxIdeal.nD Cert.RDxIdeal.τ).loc Cert.RDxIdeal.main_arg2)
          ∧ r.2.mem ((c.tc : Thread Cert.RDxIdeal.nD Cert.RDxIdeal.τ).loc Cert.RDxIdeal.main_arg3) = m' ((c.tc : Thread Cert.RDxIdeal.nD Cert.RDxIdeal.τ).loc Cert.RDxIdeal.main_arg3))

def preserves_KDw_KDwIdeal : Prop :=
  True

def algebraic_KDwIdeal_RDwIdeal [hKDwIdeal : Cert.KDwIdeal.Facts] [hRDwIdeal : Cert.RDwIdeal.Facts] : Prop :=
  ∀ (m : (ℓ : Loc Cert.KDwIdeal.nD Cert.KDwIdeal.τ Cert.KDwIdeal.sig) → Buf (Elt Ideal) ℓ) (g : Dev Cert.KDwIdeal.nD → PrngReg)
    (m' : (ℓ : Loc Cert.RDwIdeal.nD Cert.RDwIdeal.τ Cert.RDwIdeal.sig) → Buf (Elt Ideal) ℓ) (g' : Dev Cert.RDwIdeal.nD → PrngReg), Pre_KDwIdeal m →
    (∀ c : Dev Cert.KDwIdeal.nD,
      m' ((c.tc : Thread Cert.RDwIdeal.nD Cert.RDwIdeal.τ).loc Cert.RDwIdeal.main_arg0) = m ((c.tc : Thread Cert.KDwIdeal.nD Cert.KDwIdeal.τ).loc Cert.KDwIdeal.main_arg0)
      ∧ m' ((c.tc : Thread Cert.RDwIdeal.nD Cert.RDwIdeal.τ).loc Cert.RDwIdeal.main_arg1) = m ((c.tc : Thread Cert.KDwIdeal.nD Cert.KDwIdeal.τ).loc Cert.KDwIdeal.main_arg1)
      ∧ m' ((c.tc : Thread Cert.RDwIdeal.nD Cert.RDwIdeal.τ).loc Cert.RDwIdeal.main_arg2) = m ((c.tc : Thread Cert.KDwIdeal.nD Cert.KDwIdeal.τ).loc Cert.KDwIdeal.main_arg2)
      ∧ m' ((c.tc : Thread Cert.RDwIdeal.nD Cert.RDwIdeal.τ).loc Cert.RDwIdeal.main_arg3) = m ((c.tc : Thread Cert.KDwIdeal.nD Cert.KDwIdeal.τ).loc Cert.KDwIdeal.main_arg3)) →
    ∃ (v0 : (c : Dev Cert.KDwIdeal.nD) → Buf (Elt Ideal) ((c.tc : Thread Cert.KDwIdeal.nD Cert.KDwIdeal.τ).loc Cert.KDwIdeal.main_v9)),
      θ_run (Cert.KDwIdeal.defs (F := Ideal)) (onTc (τ := Cert.KDwIdeal.τ) (Cert.KDwIdeal.main (F := Ideal))) ⟨m, fun _ => 0, g⟩ (fun r => ∀ c : Dev Cert.KDwIdeal.nD,
          r.2.mem ((c.tc : Thread Cert.KDwIdeal.nD Cert.KDwIdeal.τ).loc Cert.KDwIdeal.main_v9) = v0 c
          ∧ r.2.mem ((c.tc : Thread Cert.KDwIdeal.nD Cert.KDwIdeal.τ).loc Cert.KDwIdeal.main_arg0) = m ((c.tc : Thread Cert.KDwIdeal.nD Cert.KDwIdeal.τ).loc Cert.KDwIdeal.main_arg0)
          ∧ r.2.mem ((c.tc : Thread Cert.KDwIdeal.nD Cert.KDwIdeal.τ).loc Cert.KDwIdeal.main_arg1) = m ((c.tc : Thread Cert.KDwIdeal.nD Cert.KDwIdeal.τ).loc Cert.KDwIdeal.main_arg1)
          ∧ r.2.mem ((c.tc : Thread Cert.KDwIdeal.nD Cert.KDwIdeal.τ).loc Cert.KDwIdeal.main_arg2) = m ((c.tc : Thread Cert.KDwIdeal.nD Cert.KDwIdeal.τ).loc Cert.KDwIdeal.main_arg2)
          ∧ r.2.mem ((c.tc : Thread Cert.KDwIdeal.nD Cert.KDwIdeal.τ).loc Cert.KDwIdeal.main_arg3) = m ((c.tc : Thread Cert.KDwIdeal.nD Cert.KDwIdeal.τ).loc Cert.KDwIdeal.main_arg3))
      ∧ θ_run (Cert.RDwIdeal.defs (F := Ideal)) (onTc (τ := Cert.RDwIdeal.τ) (Cert.RDwIdeal.main (F := Ideal))) ⟨m', fun _ => 0, g'⟩ (fun r => ∀ c : Dev Cert.RDwIdeal.nD,
          r.2.mem ((c.tc : Thread Cert.RDwIdeal.nD Cert.RDwIdeal.τ).loc Cert.RDwIdeal.main_v4) = v0 c
          ∧ r.2.mem ((c.tc : Thread Cert.RDwIdeal.nD Cert.RDwIdeal.τ).loc Cert.RDwIdeal.main_arg0) = m' ((c.tc : Thread Cert.RDwIdeal.nD Cert.RDwIdeal.τ).loc Cert.RDwIdeal.main_arg0)
          ∧ r.2.mem ((c.tc : Thread Cert.RDwIdeal.nD Cert.RDwIdeal.τ).loc Cert.RDwIdeal.main_arg1) = m' ((c.tc : Thread Cert.RDwIdeal.nD Cert.RDwIdeal.τ).loc Cert.RDwIdeal.main_arg1)
          ∧ r.2.mem ((c.tc : Thread Cert.RDwIdeal.nD Cert.RDwIdeal.τ).loc Cert.RDwIdeal.main_arg2) = m' ((c.tc : Thread Cert.RDwIdeal.nD Cert.RDwIdeal.τ).loc Cert.RDwIdeal.main_arg2)
          ∧ r.2.mem ((c.tc : Thread Cert.RDwIdeal.nD Cert.RDwIdeal.τ).loc Cert.RDwIdeal.main_arg3) = m' ((c.tc : Thread Cert.RDwIdeal.nD Cert.RDwIdeal.τ).loc Cert.RDwIdeal.main_arg3))

def Claim : Prop :=
  ∃ (hKDx : Cert.KDx.Facts) (hKDxIdeal : Cert.KDxIdeal.Facts) (hRDxIdeal : Cert.RDxIdeal.Facts) (hKDw : Cert.KDw.Facts) (hKDwIdeal : Cert.KDwIdeal.Facts) (hRDwIdeal : Cert.RDwIdeal.Facts),
    quiescent_KDx (hKDx := hKDx)
    ∧ quiescent_KDxIdeal (hKDxIdeal := hKDxIdeal)
    ∧ quiescent_RDxIdeal (hRDxIdeal := hRDxIdeal)
    ∧ quiescent_KDw (hKDw := hKDw)
    ∧ quiescent_KDwIdeal (hKDwIdeal := hKDwIdeal)
    ∧ quiescent_RDwIdeal (hRDwIdeal := hRDwIdeal)
    ∧ preserves_KDx_KDxIdeal
    ∧ algebraic_KDxIdeal_RDxIdeal (hKDxIdeal := hKDxIdeal) (hRDxIdeal := hRDxIdeal)
    ∧ preserves_KDw_KDwIdeal
    ∧ algebraic_KDwIdeal_RDwIdeal (hKDwIdeal := hKDwIdeal) (hRDwIdeal := hRDwIdeal)
-- ==== KDx.lean ====
abbrev S2x8192x10752 : Shape := ⟨3, ![2, 8192, 10752]⟩
abbrev S2x8192 : Shape := ⟨2, ![2, 8192]⟩
abbrev S10752x7168 : Shape := ⟨2, ![10752, 7168]⟩
abbrev S10752 : Shape := ⟨1, ![10752]⟩
abbrev S16384x10752 : Shape := ⟨2, ![16384, 10752]⟩
abbrev S2x8192x1 : Shape := ⟨3, ![2, 8192, 1]⟩
abbrev S2x8192x128 : Shape := ⟨3, ![2, 8192, 128]⟩
abbrev S16384x128 : Shape := ⟨2, ![16384, 128]⟩
abbrev S10752x1 : Shape := ⟨2, ![10752, 1]⟩
abbrev S10752x128 : Shape := ⟨2, ![10752, 128]⟩
abbrev S16384x7168 : Shape := ⟨2, ![16384, 7168]⟩
abbrev S2048x1536 : Shape := ⟨2, ![2048, 1536]⟩
abbrev S1536x1792 : Shape := ⟨2, ![1536, 1792]⟩
abbrev S1536x128 : Shape := ⟨2, ![1536, 128]⟩
abbrev S2048x128 : Shape := ⟨2, ![2048, 128]⟩
abbrev S2048x1792 : Shape := ⟨2, ![2048, 1792]⟩

abbrev nBuf : Space → Nat
  | .hbm => 12
  | .vmem => 11
  | .smem => 0
  | _ => 0

abbrev bufTy : (tb : Table) → Fin (tcTables nBuf tb) → BufTy
  | .hbm, ⟨0, _⟩ => ⟨S2x8192x10752, .fp8e5m2⟩
  | .hbm, ⟨1, _⟩ => ⟨S2x8192, .f32⟩
  | .hbm, ⟨2, _⟩ => ⟨S10752x7168, .fp8e4m3⟩
  | .hbm, ⟨3, _⟩ => ⟨S10752, .f32⟩
  | .hbm, ⟨4, _⟩ => ⟨S16384x10752, .fp8e5m2⟩
  | .hbm, ⟨5, _⟩ => ⟨S2x8192x1, .f32⟩
  | .hbm, ⟨6, _⟩ => ⟨S2x8192x128, .f32⟩
  | .hbm, ⟨7, _⟩ => ⟨S16384x128, .f32⟩
  | .hbm, ⟨8, _⟩ => ⟨S10752, .bf16⟩
  | .hbm, ⟨9, _⟩ => ⟨S10752x1, .bf16⟩
  | .hbm, ⟨10, _⟩ => ⟨S10752x128, .bf16⟩
  | .hbm, ⟨11, _⟩ => ⟨S16384x7168, .bf16⟩
  | .local _ .vmem, ⟨0, _⟩ => ⟨S2048x1536, .fp8e5m2⟩
  | .local _ .vmem, ⟨1, _⟩ => ⟨S2048x1536, .fp8e5m2⟩
  | .local _ .vmem, ⟨2, _⟩ => ⟨S1536x1792, .fp8e4m3⟩
  | .local _ .vmem, ⟨3, _⟩ => ⟨S1536x1792, .fp8e4m3⟩
  | .local _ .vmem, ⟨4, _⟩ => ⟨S1536x128, .bf16⟩
  | .local _ .vmem, ⟨5, _⟩ => ⟨S1536x128, .bf16⟩
  | .local _ .vmem, ⟨6, _⟩ => ⟨S2048x128, .f32⟩
  | .local _ .vmem, ⟨7, _⟩ => ⟨S2048x128, .f32⟩
  | .local _ .vmem, ⟨8, _⟩ => ⟨S2048x1792, .bf16⟩
  | .local _ .vmem, ⟨9, _⟩ => ⟨S2048x1792, .bf16⟩
  | .local _ .vmem, ⟨10, _⟩ => ⟨S2048x1792, .f32⟩
  | _, _ => ⟨S2x8192x10752, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 7], ![false, false, false]⟩

def k0_cond2 (i : grid0.Coords) : BitVec 1 :=
  let arg2 : BitVec 32 := BitVec.ofNat 32 (i 2).val
  let c6_i32 : BitVec 32 := 6#32
  let v18 : BitVec 1 := Scalar.cmpi .eq arg2 c6_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1792 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RDxIdeal.lean ====
abbrev S2x8192x10752 : Shape := ⟨3, ![2, 8192, 10752]⟩
abbrev S2x8192 : Shape := ⟨2, ![2, 8192]⟩
abbrev S10752x7168 : Shape := ⟨2, ![10752, 7168]⟩
abbrev S10752 : Shape := ⟨1, ![10752]⟩
abbrev S16384x10752 : Shape := ⟨2, ![16384, 10752]⟩
abbrev S16384x1 : Shape := ⟨2, ![16384, 1]⟩
abbrev S10752x1 : Shape := ⟨2, ![10752, 1]⟩
abbrev S16384x7168 : Shape := ⟨2, ![16384, 7168]⟩

abbrev nBuf : Space → Nat
  | .hbm => 8
  | .vmem => 5
  | .smem => 0
  | _ => 0

abbrev bufTy : (tb : Table) → Fin (tcTables nBuf tb) → BufTy
  | .hbm, ⟨0, _⟩ => ⟨S2x8192x10752, .fp8e5m2⟩
  | .hbm, ⟨1, _⟩ => ⟨S2x8192, .f32⟩
  | .hbm, ⟨2, _⟩ => ⟨S10752x7168, .fp8e4m3⟩
  | .hbm, ⟨3, _⟩ => ⟨S10752, .f32⟩
  | .hbm, ⟨4, _⟩ => ⟨S16384x10752, .fp8e5m2⟩
  | .hbm, ⟨5, _⟩ => ⟨S16384x1, .f32⟩
  | .hbm, ⟨6, _⟩ => ⟨S10752x1, .f32⟩
  | .hbm, ⟨7, _⟩ => ⟨S16384x7168, .bf16⟩
  | .local _ .vmem, ⟨0, _⟩ => ⟨S16384x10752, .fp8e5m2⟩
  | .local _ .vmem, ⟨1, _⟩ => ⟨S16384x1, .f32⟩
  | .local _ .vmem, ⟨2, _⟩ => ⟨S10752x7168, .fp8e4m3⟩
  | .local _ .vmem, ⟨3, _⟩ => ⟨S10752x1, .f32⟩
  | .local _ .vmem, ⟨4, _⟩ => ⟨S16384x7168, .bf16⟩
  | _, _ => ⟨S2x8192x10752, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x10752 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10752x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10752x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KDw.lean ====
abbrev S2x8192x10752 : Shape := ⟨3, ![2, 8192, 10752]⟩
abbrev S2x8192 : Shape := ⟨2, ![2, 8192]⟩
abbrev S2x8192x7168 : Shape := ⟨3, ![2, 8192, 7168]⟩
abbrev S16384x10752 : Shape := ⟨2, ![16384, 10752]⟩
abbrev S2x8192x1 : Shape := ⟨3, ![2, 8192, 1]⟩
abbrev S2x8192x128 : Shape := ⟨3, ![2, 8192, 128]⟩
abbrev S16384x128 : Shape := ⟨2, ![16384, 128]⟩
abbrev S16384x7168 : Shape := ⟨2, ![16384, 7168]⟩
abbrev S16384 : Shape := ⟨1, ![16384]⟩
abbrev S16384x1 : Shape := ⟨2, ![16384, 1]⟩
abbrev S10752x7168 : Shape := ⟨2, ![10752, 7168]⟩
abbrev S1024x1536 : Shape := ⟨2, ![1024, 1536]⟩
abbrev S1024x128 : Shape := ⟨2, ![1024, 128]⟩
abbrev S1024x1792 : Shape := ⟨2, ![1024, 1792]⟩
abbrev S1536x1792 : Shape := ⟨2, ![1536, 1792]⟩

abbrev nBuf : Space → Nat
  | .hbm => 14
  | .vmem => 10
  | .smem => 0
  | _ => 0

abbrev bufTy : (tb : Table) → Fin (tcTables nBuf tb) → BufTy
  | .hbm, ⟨0, _⟩ => ⟨S2x8192x10752, .fp8e5m2⟩
  | .hbm, ⟨1, _⟩ => ⟨S2x8192, .f32⟩
  | .hbm, ⟨2, _⟩ => ⟨S2x8192x7168, .fp8e4m3⟩
  | .hbm, ⟨3, _⟩ => ⟨S2x8192, .f32⟩
  | .hbm, ⟨4, _⟩ => ⟨S16384x10752, .fp8e5m2⟩
  | .hbm, ⟨5, _⟩ => ⟨S2x8192x1, .f32⟩
  | .hbm, ⟨6, _⟩ => ⟨S2x8192x128, .f32⟩
  | .hbm, ⟨7, _⟩ => ⟨S16384x128, .f32⟩
  | .hbm, ⟨8, _⟩ => ⟨S16384x7168, .fp8e4m3⟩
  | .hbm, ⟨9, _⟩ => ⟨S16384, .f32⟩
  | .hbm, ⟨10, _⟩ => ⟨S16384, .bf16⟩
  | .hbm, ⟨11, _⟩ => ⟨S16384x1, .bf16⟩
  | .hbm, ⟨12, _⟩ => ⟨S16384x128, .bf16⟩
  | .hbm, ⟨13, _⟩ => ⟨S10752x7168, .f32⟩
  | .local _ .vmem, ⟨0, _⟩ => ⟨S1024x1536, .fp8e5m2⟩
  | .local _ .vmem, ⟨1, _⟩ => ⟨S1024x1536, .fp8e5m2⟩
  | .local _ .vmem, ⟨2, _⟩ => ⟨S1024x128, .f32⟩
  | .local _ .vmem, ⟨3, _⟩ => ⟨S1024x128, .f32⟩
  | .local _ .vmem, ⟨4, _⟩ => ⟨S1024x1792, .fp8e4m3⟩
  | .local _ .vmem, ⟨5, _⟩ => ⟨S1024x1792, .fp8e4m3⟩
  | .local _ .vmem, ⟨6, _⟩ => ⟨S1024x128, .bf16⟩
  | .local _ .vmem, ⟨7, _⟩ => ⟨S1024x128, .bf16⟩
  | .local _ .vmem, ⟨8, _⟩ => ⟨S1536x1792, .f32⟩
  | .local _ .vmem, ⟨9, _⟩ => ⟨S1536x1792, .f32⟩
  | _, _ => ⟨S2x8192x10752, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![7, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1792 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1536x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RDwIdeal.lean ====
abbrev S2x8192x10752 : Shape := ⟨3, ![2, 8192, 10752]⟩
abbrev S2x8192 : Shape := ⟨2, ![2, 8192]⟩
abbrev S2x8192x7168 : Shape := ⟨3, ![2, 8192, 7168]⟩
abbrev S16384x10752 : Shape := ⟨2, ![16384, 10752]⟩
abbrev S16384x1 : Shape := ⟨2, ![16384, 1]⟩
abbrev S16384x7168 : Shape := ⟨2, ![16384, 7168]⟩
abbrev S10752x7168 : Shape := ⟨2, ![10752, 7168]⟩

abbrev nBuf : Space → Nat
  | .hbm => 9
  | .vmem => 5
  | .smem => 0
  | _ => 0

abbrev bufTy : (tb : Table) → Fin (tcTables nBuf tb) → BufTy
  | .hbm, ⟨0, _⟩ => ⟨S2x8192x10752, .fp8e5m2⟩
  | .hbm, ⟨1, _⟩ => ⟨S2x8192, .f32⟩
  | .hbm, ⟨2, _⟩ => ⟨S2x8192x7168, .fp8e4m3⟩
  | .hbm, ⟨3, _⟩ => ⟨S2x8192, .f32⟩
  | .hbm, ⟨4, _⟩ => ⟨S16384x10752, .fp8e5m2⟩
  | .hbm, ⟨5, _⟩ => ⟨S16384x1, .f32⟩
  | .hbm, ⟨6, _⟩ => ⟨S16384x7168, .fp8e4m3⟩
  | .hbm, ⟨7, _⟩ => ⟨S16384x1, .f32⟩
  | .hbm, ⟨8, _⟩ => ⟨S10752x7168, .f32⟩
  | .local _ .vmem, ⟨0, _⟩ => ⟨S16384x10752, .fp8e5m2⟩
  | .local _ .vmem, ⟨1, _⟩ => ⟨S16384x1, .f32⟩
  | .local _ .vmem, ⟨2, _⟩ => ⟨S16384x7168, .fp8e4m3⟩
  | .local _ .vmem, ⟨3, _⟩ => ⟨S16384x1, .f32⟩
  | .local _ .vmem, ⟨4, _⟩ => ⟨S10752x7168, .f32⟩
  | _, _ => ⟨S2x8192x10752, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16384x10752 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10752x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.DxCases.lean ====
/-
  The kernel mingru_dx, case by case: what a point leaves in the accumulator it carries, and what the last point of a
  block's run writes out.
-/
module

public import proofs.«01_k».proof.Proof.Gen.KDxIdeal.Value
public import Idealize.ShloMosaic.Lib.Tactic

@[expose] public section

noncomputable section

namespace Cert.KDxIdeal.Hand

open Cert.KDxIdeal Cert.KDxIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The first point of a block's run: the scratch is reset to zero, and the first product added. -/
theorem sout0_A_0_eq (c : Dev nD) (i : grid0.Coords) (arg3 : Memref sig .tc .vmem S2048x1536 .fp8e5m2) (harg3 : arg3.IsWhole) (arg4 : Memref sig .tc .vmem S1536x1792 .fp8e4m3) (harg4 : arg4.IsWhole) (arg5 : Memref sig .tc .vmem S1536x128 .bf16) (harg5 : arg5.IsWhole) (arg6 : Memref sig .tc .vmem S2048x128 .f32) (harg6 : arg6.IsWhole) (arg7 : Memref sig .tc .vmem S2048x1792 .bf16) (harg7 : arg7.IsWhole) (arg8 : Memref sig .tc .vmem S2048x1792 .f32) (harg8 : arg8.IsWhole) (hc0 : cond0_0 i) (hc1 : ¬cond0_1 i)
    (x0 : Vec F S2048x1536 .fp8e5m2) (x1 : Vec F S1536x1792 .fp8e4m3) (x2 : Vec F S1536x128 .bf16) (x3 : Vec F S2048x128 .f32) :
    sout0_A_0 c i arg3 harg3 arg4 harg4 arg5 harg5 arg6 harg6 arg7 harg7 arg8 harg8 hc0 hc1 x0 x1 x2 x3 = k0_pay2 x1 x2 (k0_pay1 (F := F)) x0 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  try sl_unfold_words
  rw [View.canon_cons_unit_zero (S := S2048x1792) hz, View.readCov_unit_zero (S := S2048x1792) _ hz]
  simp only [View.readAt_eq_ld, harg3.read_unread, harg4.read_unread, harg5.read_unread, harg6.read_unread, harg7.read_unread, harg8.read_unread, View.ld_unit_zero (S := S2048x1536) hz, View.ld_unit_zero (S := S1536x1792) hz, View.ld_unit_zero (S := S1536x128) hz, View.ld_unit_zero (S := S2048x128) hz, View.ld_unit_zero (S := S2048x1792) hz, shapeCast_self]

/-- A middle point: its product is added to the scratch. -/
theorem sout0_B_0_eq (c : Dev nD) (i : grid0.Coords) (arg3 : Memref sig .tc .vmem S2048x1536 .fp8e5m2) (harg3 : arg3.IsWhole) (arg4 : Memref sig .tc .vmem S1536x1792 .fp8e4m3) (harg4 : arg4.IsWhole) (arg5 : Memref sig .tc .vmem S1536x128 .bf16) (harg5 : arg5.IsWhole) (arg6 : Memref sig .tc .vmem S2048x128 .f32) (harg6 : arg6.IsWhole) (arg7 : Memref sig .tc .vmem S2048x1792 .bf16) (harg7 : arg7.IsWhole) (arg8 : Memref sig .tc .vmem S2048x1792 .f32) (harg8 : arg8.IsWhole) (hc0 : ¬cond0_0 i) (hc1 : ¬cond0_1 i)
    (x0 : Vec F S2048x1536 .fp8e5m2) (x1 : Vec F S1536x1792 .fp8e4m3) (x2 : Vec F S1536x128 .bf16) (x3 : Vec F S2048x128 .f32) (acc : Vec F S2048x1792 .f32) :
    sout0_B_0 c i arg3 harg3 arg4 harg4 arg5 harg5 arg6 harg6 arg7 harg7 arg8 harg8 hc0 hc1 x0 x1 x2 x3 acc = k0_pay2 x1 x2 acc x0 := by
  unfold sout0_B_0
  rw [View.read_writes_eq_canon _ _ _ (scover0_B_0 c i arg3 harg3 arg4 harg4 arg5 harg5 arg6 harg6 arg7 harg7 arg8 harg8 hc0 hc1 x0 x1 x2 x3 acc)]
  unfold kernelRun0_B
  dsimp only
  try sl_unfold_words
  rw [View.canon_unit_zero hz]
  simp only [View.readAt_eq_ld, harg3.read_unread, harg4.read_unread, harg5.read_unread, harg6.read_unread, harg7.read_unread, harg8.read_unread, View.ld_unit_zero (S := S2048x1536) hz, View.ld_unit_zero (S := S1536x1792) hz, View.ld_unit_zero (S := S1536x128) hz, View.ld_unit_zero (S := S2048x128) hz, View.ld_unit_zero (S := S2048x1792) hz, shapeCast_self]

/-- The last point: its product is added to the scratch. -/
theorem sout0_C_0_eq (c : Dev nD) (i : grid0.Coords) (arg3 : Memref sig .tc .vmem S2048x1536 .fp8e5m2) (harg3 : arg3.IsWhole) (arg4 : Memref sig .tc .vmem S1536x1792 .fp8e4m3) (harg4 : arg4.IsWhole) (arg5 : Memref sig .tc .vmem S1536x128 .bf16) (harg5 : arg5.IsWhole) (arg6 : Memref sig .tc .vmem S2048x128 .f32) (harg6 : arg6.IsWhole) (arg7 : Memref sig .tc .vmem S2048x1792 .bf16) (harg7 : arg7.IsWhole) (arg8 : Memref sig .tc .vmem S2048x1792 .f32) (harg8 : arg8.IsWhole) (hc0 : ¬cond0_0 i) (hc1 : cond0_1 i)
    (x0 : Vec F S2048x1536 .fp8e5m2) (x1 : Vec F S1536x1792 .fp8e4m3) (x2 : Vec F S1536x128 .bf16) (x3 : Vec F S2048x128 .f32) (acc : Vec F S2048x1792 .f32) :
    sout0_C_0 c i arg3 harg3 arg4 harg4 arg5 harg5 arg6 harg6 arg7 harg7 arg8 harg8 hc0 hc1 x0 x1 x2 x3 acc = k0_pay2 x1 x2 acc x0 := by
  unfold sout0_C_0
  rw [View.read_writes_eq_canon _ _ _ (scover0_C_0 c i arg3 harg3 arg4 harg4 arg5 harg5 arg6 harg6 arg7 harg7 arg8 harg8 hc0 hc1 x0 x1 x2 x3 acc)]
  unfold kernelRun0_C
  dsimp only
  try sl_unfold_words
  rw [View.canon_unit_zero hz]
  simp only [View.readAt_eq_ld, harg3.read_unread, harg4.read_unread, harg5.read_unread, harg6.read_unread, harg7.read_unread, harg8.read_unread, View.ld_unit_zero (S := S2048x1536) hz, View.ld_unit_zero (S := S1536x1792) hz, View.ld_unit_zero (S := S1536x128) hz, View.ld_unit_zero (S := S2048x128) hz, View.ld_unit_zero (S := S2048x1792) hz, shapeCast_self]

/-- The last point: the block written out is the finished scratch times the tokens' scales. -/
theorem out0_C_4_eq (c : Dev nD) (i : grid0.Coords) (arg3 : Memref sig .tc .vmem S2048x1536 .fp8e5m2) (harg3 : arg3.IsWhole) (arg4 : Memref sig .tc .vmem S1536x1792 .fp8e4m3) (harg4 : arg4.IsWhole) (arg5 : Memref sig .tc .vmem S1536x128 .bf16) (harg5 : arg5.IsWhole) (arg6 : Memref sig .tc .vmem S2048x128 .f32) (harg6 : arg6.IsWhole) (arg7 : Memref sig .tc .vmem S2048x1792 .bf16) (harg7 : arg7.IsWhole) (arg8 : Memref sig .tc .vmem S2048x1792 .f32) (harg8 : arg8.IsWhole) (hc0 : ¬cond0_0 i) (hc1 : cond0_1 i)
    (x0 : Vec F S2048x1536 .fp8e5m2) (x1 : Vec F S1536x1792 .fp8e4m3) (x2 : Vec F S1536x128 .bf16) (x3 : Vec F S2048x128 .f32) (acc : Vec F S2048x1792 .f32) :
    out0_C_4 c i arg3 harg3 arg4 harg4 arg5 harg5 arg6 harg6 arg7 harg7 arg8 harg8 hc0 hc1 x0 x1 x2 x3 acc = k0_pay3 (k0_pay2 x1 x2 acc x0) x3 := by
  unfold out0_C_4
  rw [View.read_writes_eq_canon _ _ _ (cover0_C_4 c i arg3 harg3 arg4 harg4 arg5 harg5 arg6 harg6 arg7 harg7 arg8 harg8 hc0 hc1 x0 x1 x2 x3 acc)]
  unfold kernelRun0_C
  dsimp only
  try sl_unfold_words
  rw [View.canon_unit_zero hz, View.readCov_unit_zero (S := S2048x1792) _ hz]
  simp only [View.readAt_eq_ld, harg3.read_unread, harg4.read_unread, harg5.read_unread, harg6.read_unread, harg7.read_unread, harg8.read_unread, View.ld_unit_zero (S := S2048x1536) hz, View.ld_unit_zero (S := S1536x1792) hz, View.ld_unit_zero (S := S1536x128) hz, View.ld_unit_zero (S := S2048x128) hz, View.ld_unit_zero (S := S2048x1792) hz, shapeCast_self]

end Cert.KDxIdeal.Hand

end
-- ==== Proof.Tiles.lean ====
/-
  A vector of 128 lanes laid N times side by side, read at an index: column `j` of the wide vector is lane `j % 128`.
  Both kernels spread a row's scale over a block's columns this way.
-/
module

public import Idealize.ShloMosaic.Lib.Pipeline.Value
public import Idealize.ShloMosaic.Lib.Pointwise

@[expose] public section

noncomputable section

namespace Cert.Tiles

open Idealize.ShloMosaic

/-- N copies of `x` side by side, read at an index: `x` at the column modulo its width. -/
theorem tiled {α : Type} {K M : Nat} (T N : Nat) (hT : 0 < T) (x : (⟨2, ![K, T]⟩ : Shape).Idx → α) (xs : List ((s : Shape) × (s.Idx → α)))
    (hx : xs = List.replicate N ⟨⟨2, ![K, T]⟩, x⟩) (h : Shape.Concatenates (xs.map (·.1)) ⟨2, ![K, M]⟩ 1) :
    concatenate ⟨2, ![K, M]⟩ 1 xs h = fun j => x (ix2 (j 0) ⟨(j 1).val % T, Nat.mod_lt _ hT⟩) := by
  subst hx
  exact funext fun j => concatenate_replicate_apply (t := ⟨2, ![K, M]⟩) (s₁ := ⟨2, ![K, T]⟩) (1 : Fin 2) N x h rfl j (ix2 (j 0) ⟨(j 1).val % T, Nat.mod_lt _ hT⟩) rfl fun b hb => by
    match b with
    | ⟨0, _⟩ => rfl
    | ⟨1, _⟩ => exact absurd rfl hb

theorem rep12 {β : Type _} (x : β) : [x, x, x, x, x, x, x, x, x, x, x, x] = List.replicate 12 x := by simp only [List.replicate]
theorem rep14 {β : Type _} (x : β) : [x, x, x, x, x, x, x, x, x, x, x, x, x, x] = List.replicate 14 x := by simp only [List.replicate]

/-- A block's element is the array's at the block's place plus the place in the block: from the two coordinates' values. -/
theorem ix2_ext {a b : Nat} (j : (⟨2, ![a, b]⟩ : Shape).Idx) (r : Fin a) (l : Fin b) (h0 : (j 0).val = r.val) (h1 : (j 1).val = l.val) : j = ix2 r l := by
  funext d; apply Fin.ext
  match d with
  | ⟨0, _⟩ => exact h0
  | ⟨1, _⟩ => exact h1

end Cert.Tiles

end
-- ==== Proof.DwSpec.lean ====
/-
  What dw is: the sum over all 16384 tokens of (gradient code times its token's scale) times (activation code times its
  token's scale). Both the kernel's result and the reference's are proved equal to this one sum.
-/
module

public import Idealize.ShloMosaic.Lib.Pointwise

@[expose] public section

noncomputable section

namespace Cert.DwSpec

open Idealize.ShloMosaic

variable (g : (⟨3, ![2, 8192, 10752]⟩ : Shape).Idx → EReal) (s : (⟨2, ![2, 8192]⟩ : Shape).Idx → EReal)
  (x : (⟨3, ![2, 8192, 7168]⟩ : Shape).Idx → EReal) (xs : (⟨2, ![2, 8192]⟩ : Shape).Idx → EReal)

/-- Token `k`'s batch and place in the sequence. -/
abbrev bt (k : Fin 16384) : Fin 2 := ⟨k.val / 8192, by omega⟩
abbrev sq (k : Fin 16384) : Fin 8192 := ⟨k.val % 8192, Nat.mod_lt _ (by decide)⟩

/-- Token `k`'s contribution to entry (r, l) of dw. -/
def term (r : Fin 10752) (l : Fin 7168) (k : Fin 16384) : EReal :=
  (g (ix3 (bt k) (sq k) r) * s (ix2 (bt k) (sq k))) * (x (ix3 (bt k) (sq k) l) * xs (ix2 (bt k) (sq k)))

/-- Entry `j` of dw. -/
def dw : (⟨2, ![10752, 7168]⟩ : Shape).Idx → EReal := fun j => ∑ k : Fin 16384, term g s x xs (j 0) (j 1) k

end Cert.DwSpec

end
-- ==== Proof.DxSpec.lean ====
/-
  What dx is: a token's gradient codes times the dequantised weights, summed over the 10752 output features, times the
  token's scale. Both the kernel's result and the reference's are proved equal to this one expression.
-/
module

public import proofs.«01_k».proof.Proof.DwSpec

@[expose] public section

noncomputable section

namespace Cert.DxSpec

open Idealize.ShloMosaic Cert.DwSpec

variable (g : (⟨3, ![2, 8192, 10752]⟩ : Shape).Idx → EReal) (s : (⟨2, ![2, 8192]⟩ : Shape).Idx → EReal)
  (w : (⟨2, ![10752, 7168]⟩ : Shape).Idx → EReal) (ws : (⟨1, ![10752]⟩ : Shape).Idx → EReal)

/-- Feature `k`'s contribution to entry (r, l), before the token's scale. -/
def term (r : Fin 16384) (l : Fin 7168) (k : Fin 10752) : EReal :=
  g (ix3 (bt r) (sq r) k) * (w (ix2 k l) * ws (ix1 k))

/-- Entry `j` of dx. -/
def dx : (⟨2, ![16384, 7168]⟩ : Shape).Idx → EReal := fun j =>
  (∑ k : Fin 10752, term g w ws (j 0) (j 1) k) * s (ix2 (bt (j 0)) (sq (j 0)))

end Cert.DxSpec

end
-- ==== Proof.DxKernel.lean ====
/-
  The kernel mingru_dx over the reals: what a point adds to the accumulator, what the arrays it stages hold, and that the
  result array ends holding `DxSpec.dx` of the arguments.
-/
module

public import proofs.«01_k».proof.Proof.DxCases
public import proofs.«01_k».proof.Proof.Tiles
public import proofs.«01_k».proof.Proof.DxSpec
public import Idealize.ShloMosaic.Lib.Pointwise
public import Idealize.ShloMosaic.Lib.StableHlo.ReadAt

@[expose] public section

noncomputable section

namespace Cert.KDxIdeal.Hand

open Cert.KDxIdeal Cert.KDxIdeal.Gen Cert.KDxIdeal.Value Cert.Tiles Idealize.ShloMosaic Idealize.ShloMosaic.TcCoe Idealize.SL.Sem

/-! ## What one point computes -/

/-- The reset accumulator is zero. -/
theorem pay1_apply (j : S2048x1792.Idx) : k0_pay1 (F := Ideal) j = 0 := by
  pointwise [k0_pay1]

/-- One point's step: the accumulator plus the codes' block times the dequantised weights' block. -/
theorem pay2_apply (x1 : Vec Ideal S1536x1792 .fp8e4m3) (x2 : Vec Ideal S1536x128 .bf16) (acc : Vec Ideal S2048x1792 .f32) (x0 : Vec Ideal S2048x1536 .fp8e5m2)
    (r : Fin 2048) (l : Fin 1792) :
    k0_pay2 (F := Ideal) x1 x2 acc x0 (ix2 r l) =
      (acc (ix2 r l) : EReal) + ∑ k : Fin 1536, (x0 (ix2 r k) : EReal) * (x1 (ix2 k l) * x2 (ix2 k ⟨l.val % 128, Nat.mod_lt _ (by decide)⟩) : EReal) := by
  simp only [k0_pay2]
  rw [tiled 128 14 (by decide) _ _ (rep14 _)]
  pointwise

/-- The last step: the accumulator times the row's scale. -/
theorem pay3_apply (acc : Vec Ideal S2048x1792 .f32) (x3 : Vec Ideal S2048x128 .f32) (r : Fin 2048) (l : Fin 1792) :
    k0_pay3 (F := Ideal) acc x3 (ix2 r l) = (acc (ix2 r l) * x3 (ix2 r ⟨l.val % 128, Nat.mod_lt _ (by decide)⟩) : EReal) := by
  simp only [k0_pay3]
  rw [tiled 128 14 (by decide) _ _ (rep14 _)]
  pointwise

variable (m : (ℓ : Loc nD τ sig) → Buf (Elt Ideal) ℓ) (ρ : Dev nD → PrngReg)

/-! ## The arrays the call stages, over the arguments -/

theorem V0 (c : Dev nD) (r : Fin 16384) (l : Fin 10752) :
    V m c main_v0 (ix2 r l) = m ((c : Thread nD τ).loc main_arg0) (ix3 (DwSpec.bt r) (DwSpec.sq r) l) := by
  unfold_abbrev_sides
  after_reads_at
theorem V3 (c : Dev nD) (r : Fin 16384) (l : Fin 128) :
    V m c main_v3 (ix2 r l) = m ((c : Thread nD τ).loc main_arg1) (ix2 (DwSpec.bt r) (DwSpec.sq r)) := by
  unfold_abbrev_sides
  after_reads_at
theorem V6 (c : Dev nD) (r : Fin 10752) (l : Fin 128) :
    V m c main_v6 (ix2 r l) = m ((c : Thread nD τ).loc main_arg3) (ix1 r) := by
  unfold_abbrev_sides
  after_reads_at

/-! ## The blocks: which rows and columns point `t` stages -/

theorem idx0 : ∀ t : Fin cfg0.N, win0_0.index t = ![t.val / 28, t.val % 7] := (by decide +kernel : ∀ t : Fin grid0.N, _)
theorem idx1 : ∀ t : Fin cfg0.N, win0_1.index t = ![t.val % 7, t.val / 7 % 4] := (by decide +kernel : ∀ t : Fin grid0.N, _)
theorem idx2 : ∀ t : Fin cfg0.N, win0_2.index t = ![t.val % 7, 0] := (by decide +kernel : ∀ t : Fin grid0.N, _)
theorem idx3 : ∀ t : Fin cfg0.N, win0_3.index t = ![t.val / 28, 0] := (by decide +kernel : ∀ t : Fin grid0.N, _)

/-- The contracted feature, the token and the dx column at a place of point `t`'s blocks. -/
abbrev feat (t : Fin cfg0.N) (k : Fin 1536) : Fin 10752 := ⟨t.val % 7 * 1536 + k.val, by omega⟩
abbrev row (t : Fin cfg0.N) (r : Fin 2048) : Fin 16384 :=
  ⟨t.val / 28 * 2048 + r.val, by have : t.val < 224 := lt_of_lt_of_eq t.isLt N_0; omega⟩
abbrev col (t : Fin cfg0.N) (l : Fin 1792) : Fin 7168 := ⟨t.val / 7 % 4 * 1792 + l.val, by omega⟩

theorem blk0 (c : Dev nD) (t : Fin cfg0.N) (r : Fin 2048) (k : Fin 1536) :
    iblk m c 0 t (ix2 r k) = V m c main_v0 (ix2 (row t r) (feat t k)) := by
  have e : win0_0.index t = _ := idx0 t
  have h0 : (((cfg0.win 0).blk t).view.emb (ix2 r k) 0).val = win0_0.index t (0 : Fin 2) * 2048 + 1 * r.val := rfl
  have h1 : (((cfg0.win 0).blk t).view.emb (ix2 r k) 1).val = win0_0.index t (1 : Fin 2) * 1536 + 1 * k.val := rfl
  rw [e, one_mul] at h0 h1
  exact congrArg (V m c main_v0) (ix2_ext _ (row t r) (feat t k) h0 h1)
theorem blk1 (c : Dev nD) (t : Fin cfg0.N) (k : Fin 1536) (l : Fin 1792) :
    iblk m c 1 t (ix2 k l) = V m c main_arg2 (ix2 (feat t k) (col t l)) := by
  have e : win0_1.index t = _ := idx1 t
  have h0 : (((cfg0.win 1).blk t).view.emb (ix2 k l) 0).val = win0_1.index t (0 : Fin 2) * 1536 + 1 * k.val := rfl
  have h1 : (((cfg0.win 1).blk t).view.emb (ix2 k l) 1).val = win0_1.index t (1 : Fin 2) * 1792 + 1 * l.val := rfl
  rw [e, one_mul] at h0 h1
  exact congrArg (V m c main_arg2) (ix2_ext _ (feat t k) (col t l) h0 h1)
theorem blk2 (c : Dev nD) (t : Fin cfg0.N) (k : Fin 1536) (l : Fin 128) :
    iblk m c 2 t (ix2 k l) = V m c main_v6 (ix2 (feat t k) l) := by
  have e : win0_2.index t = _ := idx2 t
  have h0 : (((cfg0.win 2).blk t).view.emb (ix2 k l) 0).val = win0_2.index t (0 : Fin 2) * 1536 + 1 * k.val := rfl
  have h1 : (((cfg0.win 2).blk t).view.emb (ix2 k l) 1).val = win0_2.index t (1 : Fin 2) * 128 + 1 * l.val := rfl
  rw [e, one_mul] at h0 h1
  exact congrArg (V m c main_v6) (ix2_ext _ (feat t k) l h0 (h1.trans (Nat.zero_add _)))
theorem blk3 (c : Dev nD) (t : Fin cfg0.N) (r : Fin 2048) (l : Fin 128) :
    iblk m c 3 t (ix2 r l) = V m c main_v3 (ix2 (row t r) l) := by
  have e : win0_3.index t = _ := idx3 t
  have h0 : (((cfg0.win 3).blk t).view.emb (ix2 r l) 0).val = win0_3.index t (0 : Fin 2) * 2048 + 1 * r.val := rfl
  have h1 : (((cfg0.win 3).blk t).view.emb (ix2 r l) 1).val = win0_3.index t (1 : Fin 2) * 128 + 1 * l.val := rfl
  rw [e, one_mul] at h0 h1
  exact congrArg (V m c main_v3) (ix2_ext _ (row t r) l h0 (h1.trans (Nat.zero_add _)))

/-! ## The accumulator after a point -/

/-- Feature `k`'s contribution to entry (r, l), from core `c`'s arguments. -/
abbrev trm (c : Dev nD) : Fin 16384 → Fin 7168 → Fin 10752 → EReal :=
  DxSpec.term (m ((c : Thread nD τ).loc main_arg0)) (m ((c : Thread nD τ).loc main_arg2)) (m ((c : Thread nD τ).loc main_arg3))

/-- What point `n` adds to the accumulator. -/
def add (c : Dev nD) (n : ℕ) (j : S2048x1792.Idx) : EReal :=
  if h : n < cfg0.N then ∑ k : Fin 1536, trm m c (row ⟨n, h⟩ (j 0)) (col ⟨n, h⟩ (j 1)) (feat ⟨n, h⟩ k) else 0

theorem step_apply (c : Dev nD) (t : Fin cfg0.N) (acc : Vec Ideal S2048x1792 .f32) (j : S2048x1792.Idx) :
    k0_pay2 (F := Ideal) (iblk m c 1 t) (iblk m c 2 t) acc (iblk m c 0 t) j = (acc j : EReal) + add m c t.val j := by
  idx_vars j
  unfold add
  rw [pay2_apply, dif_pos t.isLt]
  refine congrArg (_ + ·) (Finset.sum_congr rfl fun k _ => ?_)
  rw [blk0, blk1, blk2, V0, V_main_arg2, V6]
  rfl

/-- After point `t` the accumulator holds the sum of what the points of the block's run added so far. -/
theorem acc_apply (c : Dev nD) (t : Fin cfg0.N) (j : S2048x1792.Idx) :
    @Eq EReal ((outsAt0 m c t.val t.isLt).2 j) (∑ s ∈ Finset.range (t.val % 7 + 1), add m c (7 * (t.val / 7) + s) j) := by
  rw [soutsAt0_0_eq]
  refine (Pipeline.accAt_add_apply _ (scAt0_0 m c) (fun _ => (0 : EReal)) (add m c) (7 * (t.val / 7)) 6 (fun h j => ?_) (fun n h acc j hn hn' => ?_)
    (t.val % 7) (by omega) _ j).trans (zero_add _)
  · unfold scAt0_0
    rw [dif_pos (by omega), dif_neg (by omega), sout0_A_0_eq, step_apply, pay1_apply]
  · unfold scAt0_0
    rw [dif_neg (by omega)]
    by_cases h1 : n % 7 = 6
    · rw [dif_pos h1, sout0_C_0_eq, step_apply]
    · rw [dif_neg h1, sout0_B_0_eq, step_apply]

/-- The last point of a run writes out the finished accumulator times the tokens' scales. -/
theorem out_apply (c : Dev nD) (t : Fin cfg0.N) (h : t.val % 7 = 6) (j : S2048x1792.Idx) :
    (outsAt0 m c t.val t.isLt).1 j = ((outsAt0 m c t.val t.isLt).2 j * m ((c : Thread nD τ).loc main_arg1) (ix2 (DwSpec.bt (row t (j 0))) (DwSpec.sq (row t (j 0)))) : EReal) := by
  rw [outsAt0_C m c t (by omega) h]
  dsimp only
  rw [out0_C_4_eq, sout0_C_0_eq]
  idx_vars j
  rw [pay3_apply, blk3, V3]

/-! ## The result array -/

/-- The result array is `DxSpec.dx` of the arguments. -/
theorem G4_eq (c : Dev nD) : G4 m c =
    DxSpec.dx (m ((c : Thread nD τ).loc main_arg0)) (m ((c : Thread nD τ).loc main_arg1)) (m ((c : Thread nD τ).loc main_arg2)) (m ((c : Thread nD τ).loc main_arg3)) := by
  funext i
  have hi0 : (i 0).val < 16384 := (i 0).isLt
  have hi1 : (i 1).val < 7168 := (i 1).isLt
  have hN : cfg0.N = 224 := N_0
  have hp : pt4Of i < cfg0.N := by rw [hN]; show 7 * (4 * ((i 0).val / 2048 - 0) + 1 * ((i 1).val / 1792 - 0)) + 6 < 224; omega
  have h6 : pt4Of i % 7 = 6 := by show (7 * run4Of i + 6) % 7 = 6; omega
  have hd : pt4Of i / 7 = run4Of i := by show (7 * run4Of i + 6) / 7 = run4Of i; omega
  have e0 : ∀ s : Fin 7, ∀ hs, row ⟨7 * run4Of i + s.val, hs⟩ (loc4Of i 0) = i 0 := fun s hs => Fin.ext (by
    show (7 * (4 * ((i 0).val / 2048 - 0) + 1 * ((i 1).val / 1792 - 0)) + s.val) / 28 * 2048 + (i 0).val % 2048 = (i 0).val; omega)
  have e1 : ∀ s : Fin 7, ∀ hs, col ⟨7 * run4Of i + s.val, hs⟩ (loc4Of i 1) = i 1 := fun s hs => Fin.ext (by
    show (7 * (4 * ((i 0).val / 2048 - 0) + 1 * ((i 1).val / 1792 - 0)) + s.val) / 7 % 4 * 1792 + (i 1).val % 1792 = (i 1).val; omega)
  have e2 : ∀ s : Fin 7, ∀ hs, ∀ k : Fin 1536, feat ⟨7 * run4Of i + s.val, hs⟩ k = ⟨s.val * 1536 + k.val, by omega⟩ := fun s hs k => Fin.ext (by
    show (7 * (4 * ((i 0).val / 2048 - 0) + 1 * ((i 1).val / 1792 - 0)) + s.val) % 7 * 1536 + k.val = s.val * 1536 + k.val; omega)
  have key : @Eq EReal (G4 m c i) (((outsAt0 m c (pt4Of i) hp).2 (loc4Of i) : EReal) * m ((c : Thread nD τ).loc main_arg1) (ix2 (DwSpec.bt (i 0)) (DwSpec.sq (i 0)))) := by
    unfold G4
    rw [dif_pos hp, ← outsAt0_sweep m c (pt4Of i) hp, out_apply m c ⟨pt4Of i, hp⟩ h6]
    rw [show row ⟨pt4Of i, hp⟩ (loc4Of i 0) = i 0 from e0 6 hp]
  refine key.trans ?_
  unfold DxSpec.dx
  refine congrArg (· * _) ?_
  refine (acc_apply m c ⟨pt4Of i, hp⟩ (loc4Of i)).trans ?_
  show ∑ s ∈ Finset.range (pt4Of i % 7 + 1), add m c (7 * (pt4Of i / 7) + s) (loc4Of i) = _
  rw [h6, hd, Fin.sum_univ_tiles (M := EReal) 7 1536 rfl, Finset.sum_range]
  refine Finset.sum_congr rfl fun s _ => ?_
  have hs : 7 * run4Of i + s.val < cfg0.N := by have : pt4Of i = 7 * run4Of i + 6 := rfl; omega
  unfold add
  rw [dif_pos hs]
  refine Finset.sum_congr rfl fun k _ => ?_
  rw [e0, e1, e2]

end Cert.KDxIdeal.Hand

end
-- ==== Proof.DxRef.lean ====
/-
  The reference of dx over the reals: its one block is the whole array, and it holds `DxSpec.dx` of the arguments.
-/
module

public import proofs.«01_k».proof.Proof.Gen.RDxIdeal.Value
public import proofs.«01_k».proof.Proof.Tiles
public import proofs.«01_k».proof.Proof.DxSpec
public import Idealize.ShloMosaic.Lib.Pointwise
public import Idealize.ShloMosaic.Lib.StableHlo.ReadAt

@[expose] public section

set_option maxRecDepth 16384

noncomputable section

namespace Cert.RDxIdeal.Hand

open Cert.RDxIdeal Cert.RDxIdeal.Gen Cert.RDxIdeal.Value Cert.Tiles Idealize.ShloMosaic Idealize.ShloMosaic.TcCoe Idealize.SL.Sem

/-- The result's entry: the codes' row times the dequantised weights' column, times the token's scale. -/
theorem pay1_apply (x0 : Vec Ideal S16384x10752 .fp8e5m2) (x2 : Vec Ideal S10752x7168 .fp8e4m3) (x3 : Vec Ideal S10752x1 .f32) (x1 : Vec Ideal S16384x1 .f32)
    (r : Fin 16384) (l : Fin 7168) :
    k0_pay1 (F := Ideal) x0 x2 x3 x1 (ix2 r l) =
      ((∑ k : Fin 10752, (x0 (ix2 r k) : EReal) * (x2 (ix2 k l) * x3 (ix2 k 0) : EReal)) * x1 (ix2 r 0) : EReal) := by
  pointwise [k0_pay1]

variable (m : (ℓ : Loc nD τ sig) → Buf (Elt Ideal) ℓ) (ρ : Dev nD → PrngReg)

theorem V0 (c : Dev nD) (r : Fin 16384) (l : Fin 10752) :
    V m c main_v0 (ix2 r l) = m ((c : Thread nD τ).loc main_arg0) (ix3 (DwSpec.bt r) (DwSpec.sq r) l) := by
  unfold_abbrev_sides
  after_reads_at
theorem V1 (c : Dev nD) (r : Fin 16384) (l : Fin 1) :
    V m c main_v1 (ix2 r l) = m ((c : Thread nD τ).loc main_arg1) (ix2 (DwSpec.bt r) (DwSpec.sq r)) := by
  unfold_abbrev_sides
  after_reads_at
theorem V2 (c : Dev nD) (r : Fin 10752) (l : Fin 1) :
    V m c main_v2 (ix2 r l) = m ((c : Thread nD τ).loc main_arg3) (ix1 r) := by
  unfold_abbrev_sides
  after_reads_at

theorem hz : (![0, 0] : Fin 2 → Nat) = fun _ => 0 := funext fun a => by fin_cases a <;> rfl

/-! ## The one block of each window is its whole array -/

theorem blk0 (c : Dev nD) (t : Fin cfg0.N) (j : S16384x10752.Idx) : iblk m c 0 t j = V m c main_v0 j := by
  have e : ∀ t : Fin cfg0.N, win0_0.index t = ![0, 0] := (by decide +kernel : ∀ t : Fin grid0.N, _)
  have h0 : (((cfg0.win 0).blk t).view.emb j 0).val = win0_0.index t (0 : Fin 2) * 16384 + 1 * (j 0).val := rfl
  have h1 : (((cfg0.win 0).blk t).view.emb j 1).val = win0_0.index t (1 : Fin 2) * 10752 + 1 * (j 1).val := rfl
  rw [e, one_mul] at h0 h1
  exact congrArg (V m c main_v0) ((ix2_ext _ (j 0) (j 1) (h0.trans (Nat.zero_add _)) (h1.trans (Nat.zero_add _))).trans (ix2_ext j _ _ rfl rfl).symm)
theorem blk1 (c : Dev nD) (t : Fin cfg0.N) (j : S16384x1.Idx) : iblk m c 1 t j = V m c main_v1 j := by
  have e : ∀ t : Fin cfg0.N, win0_1.index t = ![0, 0] := (by decide +kernel : ∀ t : Fin grid0.N, _)
  have h0 : (((cfg0.win 1).blk t).view.emb j 0).val = win0_1.index t (0 : Fin 2) * 16384 + 1 * (j 0).val := rfl
  have h1 : (((cfg0.win 1).blk t).view.emb j 1).val = win0_1.index t (1 : Fin 2) * 1 + 1 * (j 1).val := rfl
  rw [e, one_mul] at h0 h1
  exact congrArg (V m c main_v1) ((ix2_ext _ (j 0) (j 1) (h0.trans (Nat.zero_add _)) (h1.trans (Nat.zero_add _))).trans (ix2_ext j _ _ rfl rfl).symm)
theorem blk2 (c : Dev nD) (t : Fin cfg0.N) (j : S10752x7168.Idx) : iblk m c 2 t j = V m c main_arg2 j := by
  have e : ∀ t : Fin cfg0.N, win0_2.index t = ![0, 0] := (by decide +kernel : ∀ t : Fin grid0.N, _)
  have h0 : (((cfg0.win 2).blk t).view.emb j 0).val = win0_2.index t (0 : Fin 2) * 10752 + 1 * (j 0).val := rfl
  have h1 : (((cfg0.win 2).blk t).view.emb j 1).val = win0_2.index t (1 : Fin 2) * 7168 + 1 * (j 1).val := rfl
  rw [e, one_mul] at h0 h1
  exact congrArg (V m c main_arg2) ((ix2_ext _ (j 0) (j 1) (h0.trans (Nat.zero_add _)) (h1.trans (Nat.zero_add _))).trans (ix2_ext j _ _ rfl rfl).symm)
theorem blk3 (c : Dev nD) (t : Fin cfg0.N) (j : S10752x1.Idx) : iblk m c 3 t j = V m c main_v2 j := by
  have e : ∀ t : Fin cfg0.N, win0_3.index t = ![0, 0] := (by decide +kernel : ∀ t : Fin grid0.N, _)
  have h0 : (((cfg0.win 3).blk t).view.emb j 0).val = win0_3.index t (0 : Fin 2) * 10752 + 1 * (j 0).val := rfl
  have h1 : (((cfg0.win 3).blk t).view.emb j 1).val = win0_3.index t (1 : Fin 2) * 1 + 1 * (j 1).val := rfl
  rw [e, one_mul] at h0 h1
  exact congrArg (V m c main_v2) ((ix2_ext _ (j 0) (j 1) (h0.trans (Nat.zero_add _)) (h1.trans (Nat.zero_add _))).trans (ix2_ext j _ _ rfl rfl).symm)

/-- The reference's result, from core `c`'s arguments. -/
abbrev res (c : Dev nD) : S16384x7168.Idx → EReal :=
  DxSpec.dx (m ((c : Thread nD τ).loc main_arg0)) (m ((c : Thread nD τ).loc main_arg1)) (m ((c : Thread nD τ).loc main_arg2)) (m ((c : Thread nD τ).loc main_arg3))

/-- The body's result at an index. -/
theorem body_apply (c : Dev nD) (t : Fin cfg0.N) (r : Fin 16384) (l : Fin 7168) :
    k0_pay1 (F := Ideal) (iblk m c 0 t) (iblk m c 2 t) (iblk m c 3 t) (iblk m c 1 t) (ix2 r l) =
      ((∑ k : Fin 10752, DxSpec.term (m ((c : Thread nD τ).loc main_arg0)) (m ((c : Thread nD τ).loc main_arg2)) (m ((c : Thread nD τ).loc main_arg3)) r l k)
        * m ((c : Thread nD τ).loc main_arg1) (ix2 (DwSpec.bt r) (DwSpec.sq r)) : EReal) := by
  rw [pay1_apply, blk1, V1]
  congr 1
  refine Finset.sum_congr rfl fun k _ => ?_
  rw [blk0, blk2, blk3, V0, V_main_arg2, V2]
  rfl

/-- What the body leaves in the output's buffer. -/
theorem out_eq (c : Dev nD) (t : Fin cfg0.N) :
    out0_4 (F := Ideal) (iblk m c 0 t) (iblk m c 1 t) (iblk m c 2 t) (iblk m c 3 t) = res m c := by
  unfold out0_4
  rw [View.canon_unit_zero hz, View.ld_unit_zero hz, View.ld_unit_zero hz, View.ld_unit_zero hz, View.ld_unit_zero hz]
  funext j
  idx_vars j
  rw [body_apply]
  rfl

/-- The result array ends holding it: the one write-back covers the array. -/
theorem final (c : Dev nD) : (dats m 0 c).arrAt 4 cfg0.N = res m c := by
  have e : ∀ t : Fin cfg0.N, win0_4.index t = ![0, 0] := (by decide +kernel : ∀ t : Fin grid0.N, _)
  refine (dats m 0 c).arrAt_eq_of_cover 4 (res m c) (fun t _ => ?_) fun i => ?_
  · rw [flushed4, out_eq]
    have hz' : (fun a => win0_4.index t a * main_v3.ty.shape.size a) = fun _ => 0 := funext fun a => by
      have e' : win0_4.index t a = 0 := by rw [e]; fin_cases a <;> rfl
      rw [e', Nat.zero_mul]
    exact (Memref.read_access_unit_zero (Elt Ideal) main_v3 hz' (fun a => by rw [congrFun hz' a]; simp) (res m c)).symm
  · have hN : 0 < cfg0.N := by rw [show cfg0.N = 1 from N_0]; exact Nat.one_pos
    refine ⟨⟨0, hN⟩, (by decide +kernel : ∀ t : Fin grid0.N, win0_4.flush t = true) _, ?_⟩
    show i ∈ ((View.whole main_v3).slice (win0_4.rect ⟨0, hN⟩)).set
    rw [View.set_slice_whole, Rect.mem_set_unit]
    intro a
    have e' : win0_4.index ⟨0, hN⟩ a = 0 := by rw [e]; fin_cases a <;> rfl
    have hi : (i a : Nat) < main_v3.ty.shape.size a := (i a).isLt
    show win0_4.index ⟨0, hN⟩ a * main_v3.ty.shape.size a ≤ (i a : Nat) ∧ (i a : Nat) < win0_4.index ⟨0, hN⟩ a * main_v3.ty.shape.size a + main_v3.ty.shape.size a
    rw [e', Nat.zero_mul, Nat.zero_add]
    exact ⟨Nat.zero_le _, hi⟩

/-- The reference's run, read. -/
theorem run : θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks (F := Ideal) m ρ)

end Cert.RDxIdeal.Hand

end
-- ==== Proof.DwKernel.lean ====
/-
  The kernel mingru_dw over the reals: what a point adds to its block, what the arrays it stages hold, and that the
  result array ends holding the sum `DwSpec.dw` of the arguments.
-/
module

public import proofs.«01_k».proof.Proof.Gen.KDwIdeal.Value
public import proofs.«01_k».proof.Proof.Tiles
public import proofs.«01_k».proof.Proof.DwSpec
public import Idealize.ShloMosaic.Lib.Pointwise
public import Idealize.ShloMosaic.Lib.StableHlo.ReadAt

@[expose] public section

noncomputable section

namespace Cert.KDwIdeal.Hand

open Cert.KDwIdeal Cert.KDwIdeal.Gen Cert.KDwIdeal.Value Cert.Tiles Idealize.ShloMosaic Idealize.ShloMosaic.TcCoe Idealize.SL.Sem

/-! ## What one point computes -/

/-- The reset block is zero. -/
theorem pay1_apply (j : S1536x1792.Idx) : k0_pay1 (F := Ideal) j = 0 := by
  pointwise [k0_pay1]

/-- One point's step: the block plus the product of the two scaled blocks, contracted over the block's 1024 tokens. -/
theorem pay2_apply (x0 : Vec Ideal S1024x1536 .fp8e5m2) (x1 : Vec Ideal S1024x128 .f32) (x2 : Vec Ideal S1024x1792 .fp8e4m3) (x3 : Vec Ideal S1024x128 .bf16)
    (acc : Vec Ideal S1536x1792 .f32) (r : Fin 1536) (l : Fin 1792) :
    k0_pay2 (F := Ideal) x0 x1 x2 x3 acc (ix2 r l) =
      (acc (ix2 r l) : EReal) + ∑ k : Fin 1024, (x0 (ix2 k r) * x1 (ix2 k ⟨r.val % 128, Nat.mod_lt _ (by decide)⟩) : EReal)
        * (x2 (ix2 k l) * x3 (ix2 k ⟨l.val % 128, Nat.mod_lt _ (by decide)⟩) : EReal) := by
  simp only [k0_pay2]
  rw [tiled 128 12 (by decide) _ _ (rep12 _), tiled 128 14 (by decide) _ _ (rep14 _)]
  pointwise

variable (m : (ℓ : Loc nD τ sig) → Buf (Elt Ideal) ℓ)

/-! ## The arrays the call stages, over the arguments -/

theorem V0 (c : Dev nD) (r : Fin 16384) (l : Fin 10752) :
    V m c main_v0 (ix2 r l) = m ((c : Thread nD τ).loc main_arg0) (ix3 (DwSpec.bt r) (DwSpec.sq r) l) := by
  unfold_abbrev_sides
  after_reads_at
theorem V3 (c : Dev nD) (r : Fin 16384) (l : Fin 128) :
    V m c main_v3 (ix2 r l) = m ((c : Thread nD τ).loc main_arg1) (ix2 (DwSpec.bt r) (DwSpec.sq r)) := by
  unfold_abbrev_sides
  after_reads_at
theorem V4 (c : Dev nD) (r : Fin 16384) (l : Fin 7168) :
    V m c main_v4 (ix2 r l) = m ((c : Thread nD τ).loc main_arg2) (ix3 (DwSpec.bt r) (DwSpec.sq r) l) := by
  unfold_abbrev_sides
  after_reads_at
theorem V8 (c : Dev nD) (r : Fin 16384) (l : Fin 128) :
    V m c main_v8 (ix2 r l) = m ((c : Thread nD τ).loc main_arg3) (ix2 (DwSpec.bt r) (DwSpec.sq r)) := by
  unfold_abbrev_sides
  after_reads_at

/-! ## The blocks: which rows and columns point `t` stages -/

theorem idx0 : ∀ t : Fin cfg0.N, win0_0.index t = ![t.val % 16, t.val / 64] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![t.val % 16, t.val / 16 % 4] := (by decide +kernel : ∀ t : Fin grid0.N, _)
theorem idx3 : ∀ t : Fin cfg0.N, win0_3.index t = ![t.val % 16, 0] := (by decide +kernel : ∀ t : Fin grid0.N, _)

/-- The token, the dw row and the dw column at a place of point `t`'s blocks. -/
abbrev tok (t : Fin cfg0.N) (k : Fin 1024) : Fin 16384 := ⟨t.val % 16 * 1024 + k.val, by omega⟩
abbrev row (t : Fin cfg0.N) (r : Fin 1536) : Fin 10752 :=
  ⟨t.val / 64 * 1536 + r.val, by have : t.val < 448 := lt_of_lt_of_eq t.isLt N_0; omega⟩
abbrev col (t : Fin cfg0.N) (l : Fin 1792) : Fin 7168 := ⟨t.val / 16 % 4 * 1792 + l.val, by omega⟩

theorem blk0 (c : Dev nD) (t : Fin cfg0.N) (k : Fin 1024) (r : Fin 1536) :
    iblk m c 0 t (ix2 k r) = V m c main_v0 (ix2 (tok t k) (row t r)) := by
  have e : win0_0.index t = _ := idx0 t
  have h0 : (((cfg0.win 0).blk t).view.emb (ix2 k r) 0).val = win0_0.index t (0 : Fin 2) * 1024 + 1 * k.val := rfl
  have h1 : (((cfg0.win 0).blk t).view.emb (ix2 k r) 1).val = win0_0.index t (1 : Fin 2) * 1536 + 1 * r.val := rfl
  rw [e, one_mul] at h0 h1
  exact congrArg (V m c main_v0) (ix2_ext _ (tok t k) (row t r) h0 h1)
theorem blk1 (c : Dev nD) (t : Fin cfg0.N) (k : Fin 1024) (r : Fin 128) :
    iblk m c 1 t (ix2 k r) = V m c main_v3 (ix2 (tok t k) r) := by
  have e : win0_1.index t = _ := idx1 t
  have h0 : (((cfg0.win 1).blk t).view.emb (ix2 k r) 0).val = win0_1.index t (0 : Fin 2) * 1024 + 1 * k.val := rfl
  have h1 : (((cfg0.win 1).blk t).view.emb (ix2 k r) 1).val = win0_1.index t (1 : Fin 2) * 128 + 1 * r.val := rfl
  rw [e, one_mul] at h0 h1
  exact congrArg (V m c main_v3) (ix2_ext _ (tok t k) r h0 (h1.trans (Nat.zero_add _)))
theorem blk2 (c : Dev nD) (t : Fin cfg0.N) (k : Fin 1024) (l : Fin 1792) :
    iblk m c 2 t (ix2 k l) = V m c main_v4 (ix2 (tok t k) (col t l)) := by
  have e : win0_2.index t = _ := idx2 t
  have h0 : (((cfg0.win 2).blk t).view.emb (ix2 k l) 0).val = win0_2.index t (0 : Fin 2) * 1024 + 1 * k.val := rfl
  have h1 : (((cfg0.win 2).blk t).view.emb (ix2 k l) 1).val = win0_2.index t (1 : Fin 2) * 1792 + 1 * l.val := rfl
  rw [e, one_mul] at h0 h1
  exact congrArg (V m c main_v4) (ix2_ext _ (tok t k) (col t l) h0 h1)
theorem blk3 (c : Dev nD) (t : Fin cfg0.N) (k : Fin 1024) (r : Fin 128) :
    iblk m c 3 t (ix2 k r) = V m c main_v8 (ix2 (tok t k) r) := by
  have e : win0_3.index t = _ := idx3 t
  have h0 : (((cfg0.win 3).blk t).view.emb (ix2 k r) 0).val = win0_3.index t (0 : Fin 2) * 1024 + 1 * k.val := rfl
  have h1 : (((cfg0.win 3).blk t).view.emb (ix2 k r) 1).val = win0_3.index t (1 : Fin 2) * 128 + 1 * r.val := rfl
  rw [e, one_mul] at h0 h1
  exact congrArg (V m c main_v8) (ix2_ext _ (tok t k) r h0 (h1.trans (Nat.zero_add _)))

/-! ## The result array -/

/-- Token `k`'s contribution to entry (r, l), from core `c`'s arguments. -/
abbrev trm (c : Dev nD) : Fin 10752 → Fin 7168 → Fin 16384 → EReal :=
  DwSpec.term (m ((c : Thread nD τ).loc main_arg0)) (m ((c : Thread nD τ).loc main_arg1)) (m ((c : Thread nD τ).loc main_arg2)) (m ((c : Thread nD τ).loc main_arg3))

/-- What point `n` adds to its block. -/
def add (c : Dev nD) (n : ℕ) (j : S1536x1792.Idx) : EReal :=
  if h : n < cfg0.N then ∑ k : Fin 1024, trm m c (row ⟨n, h⟩ (j 0)) (col ⟨n, h⟩ (j 1)) (tok ⟨n, h⟩ k) else 0

theorem step_apply (c : Dev nD) (n : ℕ) (h : n < cfg0.N) (acc : Vec Ideal S1536x1792 .f32) (j : S1536x1792.Idx) :
    step4 m c n h acc j = (acc j : EReal) + add m c n j := by
  idx_vars j
  unfold step4 add
  rw [pay2_apply, dif_pos h]
  refine congrArg (_ + ·) (Finset.sum_congr rfl fun k _ => ?_)
  rw [blk0, blk1, blk2, blk3, V0, V3, V4, V8]
  rfl

theorem reset_apply (c : Dev nD) (n : ℕ) (h : n < cfg0.N) (j : S1536x1792.Idx) :
    reset4 m c n h j = (0 : EReal) + add m c n j :=
  (step_apply m c n h (k0_pay1 (F := Ideal)) j).trans (by rw [pay1_apply])

/-- The result array is `DwSpec.dw` of the arguments. -/
theorem G4_eq (c : Dev nD) : G4 m c =
    DwSpec.dw (m ((c : Thread nD τ).loc main_arg0)) (m ((c : Thread nD τ).loc main_arg1)) (m ((c : Thread nD τ).loc main_arg2)) (m ((c : Thread nD τ).loc main_arg3)) := by
  funext i
  have hi0 : (i 0).val < 10752 := (i 0).isLt
  have hi1 : (i 1).val < 7168 := (i 1).isLt
  have hN : cfg0.N = 448 := N_0
  have hr : 16 * run4Of i + 15 < cfg0.N := by rw [hN]; show 16 * (4 * ((i 0).val / 1536 - 0) + 1 * ((i 1).val / 1792 - 0)) + 15 < 448; omega
  have key : @Eq EReal (G4 m c i) (∑ s ∈ Finset.range 16, add m c (16 * run4Of i + s) (loc4Of i)) := by
    unfold G4
    rw [dif_pos hr]
    exact (Pipeline.accAt_add_apply (reset4 m c) (step4 m c) (fun _ => (0 : EReal)) (add m c) (16 * run4Of i) 15
      (fun h j => reset_apply m c _ h j) (fun n h acc j _ _ => step_apply m c n h acc j) 15 le_rfl hr (loc4Of i)).trans (zero_add _)
  refine key.trans ?_
  unfold DwSpec.dw
  rw [Fin.sum_univ_tiles (M := EReal) 16 1024 rfl, Finset.sum_range]
  refine Finset.sum_congr rfl fun s _ => ?_
  have hs : 16 * run4Of i + s.val < cfg0.N := by omega
  unfold add
  rw [dif_pos hs]
  refine Finset.sum_congr rfl fun k _ => ?_
  have e0 : row ⟨16 * run4Of i + s.val, hs⟩ (loc4Of i 0) = i 0 := Fin.ext (by
    show (16 * (4 * ((i 0).val / 1536 - 0) + 1 * ((i 1).val / 1792 - 0)) + s.val) / 64 * 1536 + (i 0).val % 1536 = (i 0).val; omega)
  have e1 : col ⟨16 * run4Of i + s.val, hs⟩ (loc4Of i 1) = i 1 := Fin.ext (by
    show (16 * (4 * ((i 0).val / 1536 - 0) + 1 * ((i 1).val / 1792 - 0)) + s.val) / 16 % 4 * 1792 + (i 1).val % 1792 = (i 1).val; omega)
  have e2 : tok ⟨16 * run4Of i + s.val, hs⟩ k = ⟨s.val * 1024 + k.val, by omega⟩ := Fin.ext (by
    show (16 * (4 * ((i 0).val / 1536 - 0) + 1 * ((i 1).val / 1792 - 0)) + s.val) % 16 * 1024 + k.val = s.val * 1024 + k.val; omega)
  rw [e0, e1, e2]

end Cert.KDwIdeal.Hand

end
-- ==== Proof.DwRef.lean ====
/-
  The reference of dw over the reals: its one block is the whole array, and it holds the sum `DwSpec.dw` of the arguments.
-/
module

public import proofs.«01_k».proof.Proof.Gen.RDwIdeal.Value
public import proofs.«01_k».proof.Proof.Tiles
public import proofs.«01_k».proof.Proof.DwSpec
public import Idealize.ShloMosaic.Lib.Pointwise
public import Idealize.ShloMosaic.Lib.StableHlo.ReadAt

@[expose] public section

noncomputable section

namespace Cert.RDwIdeal.Hand

open Cert.RDwIdeal Cert.RDwIdeal.Gen Cert.RDwIdeal.Value Cert.Tiles Idealize.ShloMosaic Idealize.ShloMosaic.TcCoe Idealize.SL.Sem

/-- The product's entry: the sum over the tokens of the two dequantised rows. -/
theorem pay1_apply (x0 : Vec Ideal S16384x10752 .fp8e5m2) (x1 : Vec Ideal S16384x1 .f32) (x2 : Vec Ideal S16384x7168 .fp8e4m3) (x3 : Vec Ideal S16384x1 .f32)
    (r : Fin 10752) (l : Fin 7168) :
    k0_pay1 (F := Ideal) x0 x1 x2 x3 (ix2 r l) =
      ∑ k : Fin 16384, (x0 (ix2 k r) * x1 (ix2 k 0) : EReal) * (x2 (ix2 k l) * x3 (ix2 k 0) : EReal) := by
  pointwise [k0_pay1]

variable (m : (ℓ : Loc nD τ sig) → Buf (Elt Ideal) ℓ) (ρ : Dev nD → PrngReg)

theorem V0 (c : Dev nD) (r : Fin 16384) (l : Fin 10752) :
    V m c main_v0 (ix2 r l) = m ((c : Thread nD τ).loc main_arg0) (ix3 (DwSpec.bt r) (DwSpec.sq r) l) := by
  unfold_abbrev_sides
  after_reads_at
theorem V1 (c : Dev nD) (r : Fin 16384) (l : Fin 1) :
    V m c main_v1 (ix2 r l) = m ((c : Thread nD τ).loc main_arg1) (ix2 (DwSpec.bt r) (DwSpec.sq r)) := by
  unfold_abbrev_sides
  after_reads_at
theorem V2 (c : Dev nD) (r : Fin 16384) (l : Fin 7168) :
    V m c main_v2 (ix2 r l) = m ((c : Thread nD τ).loc main_arg2) (ix3 (DwSpec.bt r) (DwSpec.sq r) l) := by
  unfold_abbrev_sides
  after_reads_at
theorem V3 (c : Dev nD) (r : Fin 16384) (l : Fin 1) :
    V m c main_v3 (ix2 r l) = m ((c : Thread nD τ).loc main_arg3) (ix2 (DwSpec.bt r) (DwSpec.sq r)) := by
  unfold_abbrev_sides
  after_reads_at

theorem hz : (![0, 0] : Fin 2 → Nat) = fun _ => 0 := funext fun a => by fin_cases a <;> rfl

/-! ## The one block of each window is its whole array -/

theorem blk0 (c : Dev nD) (t : Fin cfg0.N) (j : S16384x10752.Idx) : iblk m c 0 t j = V m c main_v0 j := by
  have e : ∀ t : Fin cfg0.N, win0_0.index t = ![0, 0] := (by decide +kernel : ∀ t : Fin grid0.N, _)
  have h0 : (((cfg0.win 0).blk t).view.emb j 0).val = win0_0.index t (0 : Fin 2) * 16384 + 1 * (j 0).val := rfl
  have h1 : (((cfg0.win 0).blk t).view.emb j 1).val = win0_0.index t (1 : Fin 2) * 10752 + 1 * (j 1).val := rfl
  rw [e, one_mul] at h0 h1
  exact congrArg (V m c main_v0) ((ix2_ext _ (j 0) (j 1) (h0.trans (Nat.zero_add _)) (h1.trans (Nat.zero_add _))).trans (ix2_ext j _ _ rfl rfl).symm)
theorem blk1 (c : Dev nD) (t : Fin cfg0.N) (j : S16384x1.Idx) : iblk m c 1 t j = V m c main_v1 j := by
  have e : ∀ t : Fin cfg0.N, win0_1.index t = ![0, 0] := (by decide +kernel : ∀ t : Fin grid0.N, _)
  have h0 : (((cfg0.win 1).blk t).view.emb j 0).val = win0_1.index t (0 : Fin 2) * 16384 + 1 * (j 0).val := rfl
  have h1 : (((cfg0.win 1).blk t).view.emb j 1).val = win0_1.index t (1 : Fin 2) * 1 + 1 * (j 1).val := rfl
  rw [e, one_mul] at h0 h1
  exact congrArg (V m c main_v1) ((ix2_ext _ (j 0) (j 1) (h0.trans (Nat.zero_add _)) (h1.trans (Nat.zero_add _))).trans (ix2_ext j _ _ rfl rfl).symm)
theorem blk2 (c : Dev nD) (t : Fin cfg0.N) (j : S16384x7168.Idx) : iblk m c 2 t j = V m c main_v2 j := by
  have e : ∀ t : Fin cfg0.N, win0_2.index t = ![0, 0] := (by decide +kernel : ∀ t : Fin grid0.N, _)
  have h0 : (((cfg0.win 2).blk t).view.emb j 0).val = win0_2.index t (0 : Fin 2) * 16384 + 1 * (j 0).val := rfl
  have h1 : (((cfg0.win 2).blk t).view.emb j 1).val = win0_2.index t (1 : Fin 2) * 7168 + 1 * (j 1).val := rfl
  rw [e, one_mul] at h0 h1
  exact congrArg (V m c main_v2) ((ix2_ext _ (j 0) (j 1) (h0.trans (Nat.zero_add _)) (h1.trans (Nat.zero_add _))).trans (ix2_ext j _ _ rfl rfl).symm)
theorem blk3 (c : Dev nD) (t : Fin cfg0.N) (j : S16384x1.Idx) : iblk m c 3 t j = V m c main_v3 j := by
  have e : ∀ t : Fin cfg0.N, win0_3.index t = ![0, 0] := (by decide +kernel : ∀ t : Fin grid0.N, _)
  have h0 : (((cfg0.win 3).blk t).view.emb j 0).val = win0_3.index t (0 : Fin 2) * 16384 + 1 * (j 0).val := rfl
  have h1 : (((cfg0.win 3).blk t).view.emb j 1).val = win0_3.index t (1 : Fin 2) * 1 + 1 * (j 1).val := rfl
  rw [e, one_mul] at h0 h1
  exact congrArg (V m c main_v3) ((ix2_ext _ (j 0) (j 1) (h0.trans (Nat.zero_add _)) (h1.trans (Nat.zero_add _))).trans (ix2_ext j _ _ rfl rfl).symm)

/-- The reference's result, from core `c`'s arguments. -/
abbrev res (c : Dev nD) : S10752x7168.Idx → EReal :=
  DwSpec.dw (m ((c : Thread nD τ).loc main_arg0)) (m ((c : Thread nD τ).loc main_arg1)) (m ((c : Thread nD τ).loc main_arg2)) (m ((c : Thread nD τ).loc main_arg3))

/-- What the body leaves in the output's buffer. -/
theorem out_eq (c : Dev nD) (t : Fin cfg0.N) :
    out0_4 (F := Ideal) (iblk m c 0 t) (iblk m c 1 t) (iblk m c 2 t) (iblk m c 3 t) = res m c := by
  unfold out0_4
  rw [View.canon_unit_zero hz, View.ld_unit_zero hz, View.ld_unit_zero hz, View.ld_unit_zero hz, View.ld_unit_zero hz]
  funext j
  idx_vars j
  rw [pay1_apply]
  refine Finset.sum_congr rfl fun k _ => ?_
  rw [blk0, blk1, blk2, blk3, V0, V1, V2, V3]
  rfl

/-- The result array ends holding it: the one write-back covers the array. -/
theorem final (c : Dev nD) : (dats m 0 c).arrAt 4 cfg0.N = res m c := by
  have e : ∀ t : Fin cfg0.N, win0_4.index t = ![0, 0] := (by decide +kernel : ∀ t : Fin grid0.N, _)
  refine (dats m 0 c).arrAt_eq_of_cover 4 (res m c) (fun t _ => ?_) fun i => ?_
  · rw [flushed4, out_eq]
    have hz' : (fun a => win0_4.index t a * main_v4.ty.shape.size a) = fun _ => 0 := funext fun a => by
      have e' : win0_4.index t a = 0 := by rw [e]; fin_cases a <;> rfl
      rw [e', Nat.zero_mul]
    exact (Memref.read_access_unit_zero (Elt Ideal) main_v4 hz' (fun a => by rw [congrFun hz' a]; simp) (res m c)).symm
  · have hN : 0 < cfg0.N := by rw [show cfg0.N = 1 from N_0]; exact Nat.one_pos
    refine ⟨⟨0, hN⟩, (by decide +kernel : ∀ t : Fin grid0.N, win0_4.flush t = true) _, ?_⟩
    show i ∈ ((View.whole main_v4).slice (win0_4.rect ⟨0, hN⟩)).set
    rw [View.set_slice_whole, Rect.mem_set_unit]
    intro a
    have e' : win0_4.index ⟨0, hN⟩ a = 0 := by rw [e]; fin_cases a <;> rfl
    have hi : (i a : Nat) < main_v4.ty.shape.size a := (i a).isLt
    show win0_4.index ⟨0, hN⟩ a * main_v4.ty.shape.size a ≤ (i a : Nat) ∧ (i a : Nat) < win0_4.index ⟨0, hN⟩ a * main_v4.ty.shape.size a + main_v4.ty.shape.size a
    rw [e', Nat.zero_mul, Nat.zero_add]
    exact ⟨Nat.zero_le _, hi⟩

/-- The reference's run, read. -/
theorem run : θ_run defs (onTc (τ := τ) (main (F := Ideal))) ⟨m, fun _ => 0, ρ⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks (F := Ideal) m ρ)

end Cert.RDwIdeal.Hand

end
-- ==== Proof.Claims.lean ====
/-
  The two equations: each kernel call and its reference end with the same array, so each pair of runs satisfies the
  stated claim.
-/
module

public import proofs.«01_k».proof.Defs
public import proofs.«01_k».proof.Proof.DxKernel
public import proofs.«01_k».proof.Proof.DxRef
public import proofs.«01_k».proof.Proof.DwKernel
public import proofs.«01_k».proof.Proof.DwRef
public import proofs.«01_k».proof.Proof.Gen.KDxIdeal
public import proofs.«01_k».proof.Proof.Gen.RDxIdeal
public import proofs.«01_k».proof.Proof.Gen.KDwIdeal
public import proofs.«01_k».proof.Proof.Gen.RDwIdeal

@[expose] public section

noncomputable section

namespace Cert.Proof

open Idealize.ShloMosaic Idealize.ShloMosaic.TcCoe Idealize.SL.Sem

/-- dx: the kernel's result array is the reference's. -/
theorem algebraic_dx : Cert.algebraic_KDxIdeal_RDxIdeal := by
  intro m ρ m' ρ' _ hagree
  refine ⟨fun c => Cert.KDxIdeal.Value.G4 m c, Cert.KDxIdeal.Value.run (F := Ideal) m ρ, ?_⟩
  refine (θ_run Cert.RDxIdeal.defs _ _).mono (fun _ h c => ⟨(h c).1.trans ?_, (h c).2⟩) (Cert.RDxIdeal.Hand.run m' ρ')
  show _ = Cert.KDxIdeal.Value.G4 m c
  rw [Cert.KDxIdeal.Hand.G4_eq]
  unfold Cert.RDxIdeal.Hand.res
  obtain ⟨h0, h1, h2, h3⟩ := hagree c
  rw [h0, h1, h2, h3]

/-- dw: the kernel's result array is the reference's. -/
theorem algebraic_dw : Cert.algebraic_KDwIdeal_RDwIdeal := by
  intro m ρ m' ρ' _ hagree
  refine ⟨fun c => Cert.KDwIdeal.Value.G4 m c, Cert.KDwIdeal.Value.run (F := Ideal) m ρ, ?_⟩
  refine (θ_run Cert.RDwIdeal.defs _ _).mono (fun _ h c => ⟨(h c).1.trans ?_, (h c).2⟩) (Cert.RDwIdeal.Hand.run m' ρ')
  show _ = Cert.KDwIdeal.Value.G4 m c
  rw [Cert.KDwIdeal.Hand.G4_eq]
  unfold Cert.RDwIdeal.Hand.res
  obtain ⟨h0, h1, h2, h3⟩ := hagree c
  rw [h0, h1, h2, h3]

end Cert.Proof

end
-- ==== Proof.lean ====
/-
  The proof of `Cert.Claim`: the six frames (generated), the two ideal forms (nothing rewritten), and the two equations
  over the reals, dx and dw (`Claims.lean`).
-/
module

public import proofs.«01_k».proof.Defs
public import proofs.«01_k».proof.Proof.Gen.KDx
public import proofs.«01_k».proof.Proof.Gen.KDx.Skeleton
public import proofs.«01_k».proof.Proof.Gen.KDx.Launch
public import proofs.«01_k».proof.Proof.Gen.KDx.Points
public import proofs.«01_k».proof.Proof.Gen.KDx.Frame
public import proofs.«01_k».proof.Proof.Gen.KDxIdeal
public import proofs.«01_k».proof.Proof.Gen.KDxIdeal.Skeleton
public import proofs.«01_k».proof.Proof.Gen.KDxIdeal.Launch
public import proofs.«01_k».proof.Proof.Gen.KDxIdeal.Points
public import proofs.«01_k».proof.Proof.Gen.KDxIdeal.Frame
public import proofs.«01_k».proof.Proof.Gen.KDxIdeal.Value
public import proofs.«01_k».proof.Proof.Gen.RDxIdeal
public import proofs.«01_k».proof.Proof.Gen.RDxIdeal.Skeleton
public import proofs.«01_k».proof.Proof.Gen.RDxIdeal.Launch
public import proofs.«01_k».proof.Proof.Gen.RDxIdeal.Points
public import proofs.«01_k».proof.Proof.Gen.RDxIdeal.Frame
public import proofs.«01_k».proof.Proof.Gen.RDxIdeal.Value
public import proofs.«01_k».proof.Proof.Gen.KDw
public import proofs.«01_k».proof.Proof.Gen.KDw.Skeleton
public import proofs.«01_k».proof.Proof.Gen.KDw.Launch
public import proofs.«01_k».proof.Proof.Gen.KDw.Points
public import proofs.«01_k».proof.Proof.Gen.KDw.Frame
public import proofs.«01_k».proof.Proof.Gen.KDwIdeal
public import proofs.«01_k».proof.Proof.Gen.KDwIdeal.Skeleton
public import proofs.«01_k».proof.Proof.Gen.KDwIdeal.Launch
public import proofs.«01_k».proof.Proof.Gen.KDwIdeal.Points
public import proofs.«01_k».proof.Proof.Gen.KDwIdeal.Frame
public import proofs.«01_k».proof.Proof.Gen.KDwIdeal.Value
public import proofs.«01_k».proof.Proof.Gen.RDwIdeal
public import proofs.«01_k».proof.Proof.Gen.RDwIdeal.Skeleton
public import proofs.«01_k».proof.Proof.Gen.RDwIdeal.Launch
public import proofs.«01_k».proof.Proof.Gen.RDwIdeal.Points
public import proofs.«01_k».proof.Proof.Gen.RDwIdeal.Frame
public import proofs.«01_k».proof.Proof.Gen.RDwIdeal.Value
public import proofs.«01_k».proof.Proof.Claims
public import Idealize.ShloMosaic.Adequacy
public import Idealize.ShloMosaic.Init

@[expose] public section

noncomputable section

namespace Cert.Proof

open Idealize.ShloMosaic Idealize.SL.Sem Cert.KDx

theorem claim : Cert.Claim := ⟨Cert.KDx.Gen.facts, Cert.KDxIdeal.Gen.facts, Cert.RDxIdeal.Gen.facts, Cert.KDw.Gen.facts, Cert.KDwIdeal.Gen.facts, Cert.RDwIdeal.Gen.facts,
  fun m ρ _ => Cert.KDx.Gen.frame m ρ, fun m ρ _ => Cert.KDxIdeal.Gen.frame m ρ, fun m ρ _ => Cert.RDxIdeal.Gen.frame m ρ,
  fun m ρ _ => Cert.KDw.Gen.frame m ρ, fun m ρ _ => Cert.KDwIdeal.Gen.frame m ρ, fun m ρ _ => Cert.RDwIdeal.Gen.frame m ρ,
  trivial, algebraic_dx, trivial, algebraic_dw⟩

end Cert.Proof

end
